-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26_7) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S4x1024x64 : Shape := ⟨3, ![4, 1024, 64]⟩
abbrev S1024x64 : Shape := ⟨2, ![1024, 64]⟩
abbrev S1024 : Shape := ⟨1, ![1024]⟩
abbrev S128x1024 : Shape := ⟨2, ![128, 1024]⟩
abbrev S128 : Shape := ⟨1, ![128]⟩
abbrev S64x1024 : Shape := ⟨2, ![64, 1024]⟩
abbrev S256x1024 : Shape := ⟨2, ![256, 1024]⟩
abbrev S1x1024 : Shape := ⟨2, ![1, 1024]⟩
abbrev S64 : Shape := ⟨1, ![64]⟩
abbrev S1x64 : Shape := ⟨2, ![1, 64]⟩
abbrev S256x256 : Shape := ⟨2, ![256, 256]⟩
abbrev S1x256x64 : Shape := ⟨3, ![1, 256, 64]⟩
abbrev S256x64 : Shape := ⟨2, ![256, 64]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 25
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S4x1024x64, .f32⟩
  | .hbm, ⟨2, _⟩ => ⟨S1024x64, .f32⟩
  | .hbm, ⟨3, _⟩ => ⟨S1024, .f32⟩
  | .hbm, ⟨4, _⟩ => ⟨S1024x256, .f32⟩
  | .hbm, ⟨5, _⟩ => ⟨S128x1024, .f32⟩
  | .hbm, ⟨6, _⟩ => ⟨S128, .f32⟩
  | .hbm, ⟨7, _⟩ => ⟨S1024x64, .f32⟩
  | .hbm, ⟨8, _⟩ => ⟨S64x1024, .f32⟩
  | .hbm, ⟨9, _⟩ => ⟨S64x1024, .f32⟩
  | .hbm, ⟨10, _⟩ => ⟨S1024x64, .f32⟩
  | .hbm, ⟨11, _⟩ => ⟨S64x1024, .f32⟩
  | .hbm, ⟨12, _⟩ => ⟨S256x1024, .f32⟩
  | .hbm, ⟨13, _⟩ => ⟨S64x1024, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S1x1024, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S4x1024x64, .f32⟩
  | .hbm, ⟨23, _⟩ => ⟨S4x1024x64, .f32⟩
  | .hbm, ⟨24, _⟩ => ⟨S4x1024x64, .f32⟩
  | .local _ .vmem, ⟨0, _⟩ => ⟨S256x256, .f32⟩
  | .local _ .vmem, ⟨1, _⟩ => ⟨S256x256, .f32⟩
  | .local _ .vmem, ⟨2, _⟩ => ⟨S1x256x64, .f32⟩
  | .local _ .vmem, ⟨3, _⟩ => ⟨S1x256x64, .f32⟩
  | .local _ .vmem, ⟨4, _⟩ => ⟨S256x1024, .f32⟩
  | .local _ .vmem, ⟨5, _⟩ => ⟨S1x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S1x64, .f32⟩
  | .local _ .vmem, ⟨10, _⟩ => ⟨S1x64, .f32⟩
  | .local _ .vmem, ⟨11, _⟩ => ⟨S1x256x64, .f32⟩
  | .local _ .vmem, ⟨12, _⟩ => ⟨S1x256x64, .f32⟩
  | .local _ .vmem, ⟨13, _⟩ => ⟨S1x256x64, .f32⟩
  | .local _ .vmem, ⟨14, _⟩ => ⟨S1x256x64, .f32⟩
  | .local _ .vmem, ⟨15, _⟩ => ⟨S1x256x64, .f32⟩
  | .local _ .vmem, ⟨16, _⟩ => ⟨S1x256x64, .f32⟩
  | .local _ .vmem, ⟨17, _⟩ => ⟨S256x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c64_i32 : BitVec 32 := 64#32
  let v15 : BitVec 32 := Scalar.addi c0_i32 c64_i32
  let c1_i32 : BitVec 32 := 1#32
  ⟨c0_i32, v15, c1_i32⟩
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let v33 : Index := Scalar.indexCast arg15
  let c0_24 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S1024x256 : Shape := ⟨2, ![1024, 256]⟩
abbrev S4x1024x64 : Shape := ⟨3, ![4, 1024, 64]⟩
abbrev S1024x64 : Shape := ⟨2, ![1024, 64]⟩
abbrev S1024 : Shape := ⟨1, ![1024]⟩
abbrev S128x1024 : Shape := ⟨2, ![128, 1024]⟩
abbrev S128 : Shape := ⟨1, ![128]⟩
abbrev S64 : Shape := ⟨1, ![64]⟩
abbrev S1024x1 : Shape := ⟨2, ![1024, 1]⟩
abbrev S1x64 : Shape := ⟨2, ![1, 64]⟩
abbrev S128x1 : Shape := ⟨2, ![128, 1]⟩
abbrev S1x1024 : Shape := ⟨2, ![1, 1024]⟩
abbrev S4x1024x256 : Shape := ⟨3, ![4, 1024, 256]⟩
abbrev S4096x256 : Shape := ⟨2, ![4096, 256]⟩
abbrev S256x1024 : Shape := ⟨2, ![256, 1024]⟩
abbrev S4096x1024 : Shape := ⟨2, ![4096, 1024]⟩
abbrev S_ : Shape := ⟨0, ![]⟩
abbrev S64x4x1024 : Shape := ⟨3, ![64, 4, 1024]⟩
abbrev S1 : Shape := ⟨1, ![1]⟩
abbrev S4096x64 : Shape := ⟨2, ![4096, 64]⟩
abbrev S64x1024 : Shape := ⟨2, ![64, 1024]⟩
abbrev S1024x128 : Shape := ⟨2, ![1024, 128]⟩
abbrev S4096x128 : Shape := ⟨2, ![4096, 128]⟩
abbrev S1x128 : Shape := ⟨2, ![1, 128]⟩
abbrev S4x1024x128 : Shape := ⟨3, ![4, 1024, 128]⟩
abbrev S4x1024x1 : Shape := ⟨3, ![4, 1024, 1]⟩
abbrev S4x1024 : Shape := ⟨2, ![4, 1024]⟩
abbrev S1x4x1024 : Shape := ⟨3, ![1, 4, 1024]⟩

abbrev nBuf : Space → Nat
  | .hbm => 132
  | .vmem => 0
  | .smem => 0
  | _ => 0

abbrev hbmTy0_0 (i : Nat) : BufTy := match i % 128 with
  | 0 => ⟨S1024x256, .f32⟩
  | 1 => ⟨S4x1024x64, .f32⟩
  | 2 => ⟨S1024x64, .f32⟩
  | 3 => ⟨S1024, .f32⟩
  | 4 => ⟨S1024x256, .f32⟩
  | 5 => ⟨S128x1024, .f32⟩
  | 6 => ⟨S128, .f32⟩
  | 7 => ⟨S64, .i32⟩
  | 8 => ⟨S1024, .i32⟩
  | 9 => ⟨S1024x1, .i32⟩
  | 10 => ⟨S1x64, .i32⟩
  | 11 => ⟨S1024x64, .i32⟩
  | 12 => ⟨S1024x64, .i32⟩
  | 13 => ⟨S1024x64, .i1⟩
  | 14 => ⟨S1024x64, .f32⟩
  | 15 => ⟨S128, .i32⟩
  | 16 => ⟨S128x1, .i32⟩
  | 17 => ⟨S1x1024, .i32⟩
  | 18 => ⟨S128x1024, .i32⟩
  | 19 => ⟨S128x1024, .i32⟩
  | 20 => ⟨S128x1024, .i1⟩
  | 21 => ⟨S128x1024, .f32⟩
  | 22 => ⟨S4x1024x256, .f32⟩
  | 23 => ⟨S4096x256, .f32⟩
  | 24 => ⟨S256x1024, .f32⟩
  | 25 => ⟨S4096x1024, .f32⟩
  | 26 => ⟨S1x1024, .f32⟩
  | 27 => ⟨S4096x1024, .f32⟩
  | 28 => ⟨S4096x1024, .f32⟩
  | 29 => ⟨S1024x64, .f32⟩
  | 30 => ⟨S128x1024, .f32⟩
  | 31 => ⟨S_, .f32⟩
  | 32 => ⟨S4x1024x64, .f32⟩
  | 33 => ⟨S64, .i32⟩
  | 34 => ⟨S_, .f32⟩
  | 35 => ⟨S64x4x1024, .f32⟩
  | 36 => ⟨S_, .f32⟩
  | 37 => ⟨S64x4x1024, .f32⟩
  | 38 => ⟨S_, .i32⟩
  | 39 => ⟨S64, .i32⟩
  | 40 => ⟨S1024x64, .f32⟩
  | 41 => ⟨S4096x1024, .f32⟩
  | 42 => ⟨S128x1024, .f32⟩
  | 43 => ⟨S128, .f32⟩
  | 44 => ⟨S4x1024x64, .f32⟩
  | 45 => ⟨S_, .i32⟩
  | 46 => ⟨S4x1024x64, .f32⟩
  | 47 => ⟨S64x4x1024, .f32⟩
  | 48 => ⟨S64x4x1024, .f32⟩
  | 49 => ⟨S_, .i32⟩
  | 50 => ⟨S_, .i1⟩
  | 51 => ⟨S1, .i32⟩
  | 52 => ⟨S_, .i32⟩
  | 53 => ⟨S4096x64, .f32⟩
  | 54 => ⟨S64x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S1024x128, .f32⟩
  | 61 => ⟨S4096x128, .f32⟩
  | 62 => ⟨S1x128, .f32⟩
  | 63 => ⟨S4096x128, .f32⟩
  | 64 => ⟨S4096x128, .f32⟩
  | 65 => ⟨S4x1024x128, .f32⟩
  | 66 => ⟨S4x1024x64, .f32⟩
  | 67 => ⟨S4x1024x64, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S4x1024x1, .f32⟩
  | 76 => ⟨S4x1024, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S4x1024x1, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S4x1024, .f32⟩
  | 91 => ⟨S4x1024, .i1⟩
  | 92 => ⟨S4x1024, .f32⟩
  | 93 => ⟨S4x1024, .f32⟩
  | 94 => ⟨S4x1024, .f32⟩
  | 95 => ⟨S4x1024, .f32⟩
  | 96 => ⟨S4x1024, .f32⟩
  | 97 => ⟨S4x1024, .f32⟩
  | 98 => ⟨S4x1024, .f32⟩
  | 99 => ⟨S4x1024, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S4x1024x1, .f32⟩
  | 108 => ⟨S4x1024, .f32⟩
  | 109 => ⟨S4x1024, .f32⟩
  | 110 => ⟨S4x1024, .f32⟩
  | 111 => ⟨S4x1024x1, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S4x1024x64, .f32⟩
  | 120 => ⟨S1x4x1024, .f32⟩
  | 121 => ⟨S_, .i32⟩
  | 122 => ⟨S_, .i32⟩
  | 123 => ⟨S64x4x1024, .f32⟩
  | 124 => ⟨S1x4x1024, .f32⟩
  | 125 => ⟨S_, .i32⟩
  | 126 => ⟨S_, .i32⟩
  | 127 => ⟨S64x4x1024, .f32⟩
  | _ => ⟨S1024x256, .f32⟩

abbrev hbmTy0_1 (i : Nat) : BufTy := match i % 128 with
  | 0 => ⟨S_, .i32⟩
  | 1 => ⟨S_, .i32⟩
  | 2 => ⟨S4x1024x64, .f32⟩
  | 3 => ⟨S4x1024x64, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_c_3 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev main_v26_5 : Ref sig .tc := ⟨.hbm, 44, rfl⟩
abbrev main_v26_6 : Ref sig .tc := ⟨.hbm, 45, rfl⟩
abbrev main_v26_7 : Ref sig .tc := ⟨.hbm, 46, rfl⟩
abbrev main_v26_8 : Ref sig .tc := ⟨.hbm, 47, rfl⟩
abbrev main_v26_9 : Ref sig .tc := ⟨.hbm, 48, rfl⟩
abbrev main_while0c_c_13 : Ref sig .tc := ⟨.hbm, 49, rfl⟩
abbrev main_while0c_v29 : Ref sig .tc := ⟨.hbm, 50, rfl⟩
abbrev main_while0b_call0_v0 : Ref sig .tc := ⟨.hbm, 51, rfl⟩
abbrev main_while0b_v29 : Ref sig .tc := ⟨.hbm, 52, rfl⟩
abbrev main_while0b_v30 : Ref sig .tc := ⟨.hbm, 53, rfl⟩
abbrev main_while0b_v31 : Ref sig .tc := ⟨.hbm, 54, rfl⟩
abbrev main_while0b_v32 : Ref sig .tc := ⟨.hbm, 55, rfl⟩
abbrev main_while0b_v33 : Ref sig .tc := ⟨.hbm, 56, rfl⟩
abbrev main_while0b_call1_cst : Ref sig .tc := ⟨.hbm, 57, rfl⟩
abbrev main_while0b_call1_v0 : Ref sig .tc := ⟨.hbm, 58, rfl⟩
abbrev main_while0b_v34 : Ref sig .tc := ⟨.hbm, 59, rfl⟩
abbrev main_while0b_v35 : Ref sig .tc := ⟨.hbm, 60, rfl⟩
abbrev main_while0b_v36 : Ref sig .tc := ⟨.hbm, 61, rfl⟩
abbrev main_while0b_v37 : Ref sig .tc := ⟨.hbm, 62, rfl⟩
abbrev main_while0b_v38 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_call2_c : Ref sig .tc := ⟨.hbm, 68, rfl⟩
abbrev main_while0b_call2_v0 : Ref sig .tc := ⟨.hbm, 69, rfl⟩
abbrev main_while0b_call2_c_0 : Ref sig .tc := ⟨.hbm, 70, rfl⟩
abbrev main_while0b_call2_v1 : Ref sig .tc := ⟨.hbm, 71, rfl⟩
abbrev main_while0b_call2_v2 : Ref sig .tc := ⟨.hbm, 72, rfl⟩
abbrev main_while0b_call2_c_1 : Ref sig .tc := ⟨.hbm, 73, rfl⟩
abbrev main_while0b_call2_c_2 : Ref sig .tc := ⟨.hbm, 74, rfl⟩
abbrev main_while0b_call2_v3 : Ref sig .tc := ⟨.hbm, 75, rfl⟩
abbrev main_while0b_v43 : Ref sig .tc := ⟨.hbm, 76, rfl⟩
abbrev main_while0b_call3_c : Ref sig .tc := ⟨.hbm, 77, rfl⟩
abbrev main_while0b_call3_v0 : Ref sig .tc := ⟨.hbm, 78, rfl⟩
abbrev main_while0b_call3_c_0 : Ref sig .tc := ⟨.hbm, 79, rfl⟩
abbrev main_while0b_call3_v1 : Ref sig .tc := ⟨.hbm, 80, rfl⟩
abbrev main_while0b_call3_v2 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v3 : Ref sig .tc := ⟨.hbm, 84, rfl⟩
abbrev main_while0b_v44 : Ref sig .tc := ⟨.hbm, 85, rfl⟩
abbrev main_while0b_call4_cst : Ref sig .tc := ⟨.hbm, 86, rfl⟩
abbrev main_while0b_call4_v0 : Ref sig .tc := ⟨.hbm, 87, rfl⟩
abbrev main_while0b_call4_v1 : Ref sig .tc := ⟨.hbm, 88, rfl⟩
abbrev main_while0b_call4_v2 : Ref sig .tc := ⟨.hbm, 89, rfl⟩
abbrev main_while0b_call4_v3 : Ref sig .tc := ⟨.hbm, 90, rfl⟩
abbrev main_while0b_call4_v4 : Ref sig .tc := ⟨.hbm, 91, rfl⟩
abbrev main_while0b_call4_v5 : Ref sig .tc := ⟨.hbm, 92, rfl⟩
abbrev main_while0b_call4_v6 : Ref sig .tc := ⟨.hbm, 93, rfl⟩
abbrev main_while0b_call4_v7 : Ref sig .tc := ⟨.hbm, 94, rfl⟩
abbrev main_while0b_call4_v8 : Ref sig .tc := ⟨.hbm, 95, rfl⟩
abbrev main_while0b_call4_v9 : Ref sig .tc := ⟨.hbm, 96, rfl⟩
abbrev main_while0b_call4_v10 : Ref sig .tc := ⟨.hbm, 97, rfl⟩
abbrev main_while0b_call4_v11 : Ref sig .tc := ⟨.hbm, 98, rfl⟩
abbrev main_while0b_v45 : Ref sig .tc := ⟨.hbm, 99, rfl⟩
abbrev main_while0b_call5_c : Ref sig .tc := ⟨.hbm, 100, rfl⟩
abbrev main_while0b_call5_v0 : Ref sig .tc := ⟨.hbm, 101, rfl⟩
abbrev main_while0b_call5_c_0 : Ref sig .tc := ⟨.hbm, 102, rfl⟩
abbrev main_while0b_call5_v1 : Ref sig .tc := ⟨.hbm, 103, rfl⟩
abbrev main_while0b_call5_v2 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v3 : Ref sig .tc := ⟨.hbm, 107, rfl⟩
abbrev main_while0b_v46 : Ref sig .tc := ⟨.hbm, 108, rfl⟩
abbrev main_while0b_v47 : Ref sig .tc := ⟨.hbm, 109, rfl⟩
abbrev main_while0b_v48 : Ref sig .tc := ⟨.hbm, 110, rfl⟩
abbrev main_while0b_call6_v0 : Ref sig .tc := ⟨.hbm, 111, rfl⟩
abbrev main_while0b_call6_c : Ref sig .tc := ⟨.hbm, 112, rfl⟩
abbrev main_while0b_call6_v1 : Ref sig .tc := ⟨.hbm, 113, rfl⟩
abbrev main_while0b_call6_c_0 : Ref sig .tc := ⟨.hbm, 114, rfl⟩
abbrev main_while0b_call6_v2 : Ref sig .tc := ⟨.hbm, 115, rfl⟩
abbrev main_while0b_call6_v3 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_v49 : Ref sig .tc := ⟨.hbm, 119, rfl⟩
abbrev main_while0b_call7_v0 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_v50 : Ref sig .tc := ⟨.hbm, 123, rfl⟩
abbrev main_while0b_call8_v0 : Ref sig .tc := ⟨.hbm, 124, rfl⟩
abbrev main_while0b_call8_c : Ref sig .tc := ⟨.hbm, 125, rfl⟩
abbrev main_while0b_call8_c_0 : Ref sig .tc := ⟨.hbm, 126, rfl⟩
abbrev main_while0b_v51 : Ref sig .tc := ⟨.hbm, 127, rfl⟩
abbrev main_while0b_c_13 : Ref sig .tc := ⟨.hbm, 128, rfl⟩
abbrev main_while0b_v52 : Ref sig .tc := ⟨.hbm, 129, rfl⟩
abbrev main_v27 : Ref sig .tc := ⟨.hbm, 130, rfl⟩
abbrev main_v28 : Ref sig .tc := ⟨.hbm, 131, rfl⟩

abbrev nD : Nat := 1
abbrev τ : Topo := Topo.v7x

variable {F : FTy → Type} [FloatOps F]

abbrev main_while0_count : Scf.Loop 32 := ⟨0#32, 64#32, 1#32⟩
-- ==== Proof.Row.lean ====
module

public import Idealize.ShloMosaic.PureOps.Ideal

/-!
One row of the sampler, over the extended reals: the hidden activation before each step, the mean, the
scale and the sample of a step, and the activation written as a sum over the samples drawn so far.
-/

@[expose] public section

noncomputable section

namespace Sampler

open Idealize.ShloMosaic
open scoped BigOperators

/-- What one row of the sampler reads: the hidden activation before any sample is drawn (`start`), the
    masked input weights (`win`), the masked output weights and biases of the means (`wmu`, `bmu`) and of
    the scales (`wsc`, `bsc`), and the row's noise. -/
structure Row where
  start : Fin 1024 → EReal
  win : Fin 1024 → Fin 64 → EReal
  wmu : Fin 64 → Fin 1024 → EReal
  wsc : Fin 64 → Fin 1024 → EReal
  bmu : Fin 64 → EReal
  bsc : Fin 64 → EReal
  noise : Fin 64 → EReal

/-- `log (1 + exp x)`, in the form that does not overflow. -/
def softplus (x : EReal) : EReal := max x 0 + Ideal.log1p (Ideal.exp (-(max x (-x))))

namespace Row

/-- The mean of entry `i`, from the hidden activation `a`. -/
def mean (r : Row) (i : Fin 64) (a : Fin 1024 → EReal) : EReal :=
  (∑ h, max (a h) 0 * r.wmu i h) + r.bmu i

/-- The scale of entry `i`, from the hidden activation `a`. -/
def scale (r : Row) (i : Fin 64) (a : Fin 1024 → EReal) : EReal :=
  softplus ((∑ h, max (a h) 0 * r.wsc i h) + r.bsc i)

/-- The sample of entry `i`, from the hidden activation `a`. -/
def draw (r : Row) (i : Fin 64) (a : Fin 1024 → EReal) : EReal :=
  r.mean i a + r.scale i a * r.noise i

/-- The hidden activation before step `k`. -/
def act (r : Row) : ℕ → Fin 1024 → EReal
  | 0 => r.start
  | k + 1 => fun h =>
    r.act k h + (if hk : k < 64 then r.draw ⟨k, hk⟩ (r.act k) * r.win h ⟨k, hk⟩ else 0)

/-- The row's mean of entry `i`. -/
def mu (r : Row) (i : Fin 64) : EReal := r.mean i (r.act i.val)

/-- The row's scale of entry `i`. -/
def sc (r : Row) (i : Fin 64) : EReal := r.scale i (r.act i.val)

/-- The row's sample of entry `i`. -/
def z (r : Row) (i : Fin 64) : EReal := r.draw i (r.act i.val)

/-- The first `k` entries of `f`, the others zero. -/
def upTo (k : ℕ) (f : Fin 64 → EReal) (i : Fin 64) : EReal := if i.val < k then f i else 0

theorem upTo_zero (f : Fin 64 → EReal) (i : Fin 64) : upTo 0 f i = 0 := by simp [upTo]

theorem upTo_all (f : Fin 64 → EReal) (i : Fin 64) : upTo 64 f i = f i := by
  simp [upTo, i.isLt]

/-- Adding entry `k` of `f` times the indicator of `k` fills entry `k`. -/
theorem upTo_succ (k : Fin 64) (f : Fin 64 → EReal) (i : Fin 64) :
    upTo (k.val + 1) f i = upTo k.val f i + f k * (if i = k then 1 else 0) := by
  unfold upTo
  rcases lt_trichotomy i k with h | h | h
  · have h1 : i.val < k.val := h
    rw [if_pos (by omega), if_pos h1, if_neg (by omega), mul_zero, add_zero]
  · subst h; simp
  · have h1 : k.val < i.val := h
    rw [if_neg (by omega), if_neg (by omega), if_neg (by omega), mul_zero, add_zero]

/-- One more entry put in its place. -/
theorem upTo_succ_ite (k : Fin 64) (f : Fin 64 → EReal) (i : Fin 64) :
    upTo (k.val + 1) f i = if i.val = k.val then f k else upTo k.val f i := by
  unfold upTo
  rcases lt_trichotomy i k with h | h | h
  · have h1 : i.val < k.val := h
    rw [if_pos (by omega), if_neg (by omega), if_pos h1]
  · subst h; simp
  · have h1 : k.val < i.val := h
    rw [if_neg (by omega), if_neg (by omega), if_neg (by omega)]

theorem act_succ (r : Row) (k : Fin 64) (h : Fin 1024) :
    r.act (k.val + 1) h = r.act k.val h + r.z k * r.win h k := by
  show r.act k.val h + _ = _
  rw [dif_pos k.isLt]; rfl

/-- The activation before step `k` is the input product of the samples drawn so far plus the starting
    activation. -/
theorem act_eq_sum (r : Row) (h : Fin 1024) (k : ℕ) (hk : k ≤ 64) :
    r.act k h = (∑ d, upTo k r.z d * r.win h d) + r.start h := by
  induction k with
  | zero => simp [upTo_zero, act]
  | succ k ih =>
    have hk' : k < 64 := hk
    rw [show k + 1 = (⟨k, hk'⟩ : Fin 64).val + 1 from rfl, act_succ]
    have hs : ∀ d : Fin 64, upTo ((⟨k, hk'⟩ : Fin 64).val + 1) r.z d * r.win h d
        = upTo k r.z d * r.win h d + (if d = ⟨k, hk'⟩ then r.z ⟨k, hk'⟩ * r.win h ⟨k, hk'⟩ else 0) := by
      intro d
      rw [upTo_succ_ite]
      by_cases hd : d = ⟨k, hk'⟩
      · subst hd; simp [upTo]
      · have : d.val ≠ k := fun e => hd (Fin.ext e)
        rw [if_neg this, if_neg hd, add_zero]
    rw [Finset.sum_congr rfl (fun d _ => hs d), Finset.sum_add_distrib,
      Finset.sum_ite_eq' Finset.univ, if_pos (Finset.mem_univ _)]
    show r.act k h + _ = _
    rw [ih (by omega)]
    abel

/-- A sum against the indicator of `k` is the entry at `k`. -/
theorem sum_indicator (f : Fin 64 → EReal) (k : Fin 64) :
    (∑ i, f i * (if i = k then 1 else 0)) = f k := by
  rw [Finset.sum_eq_single k]
  · simp
  · intro b _ hb; rw [if_neg hb, mul_zero]
  · intro h; exact absurd (Finset.mem_univ k) h

end Row

end Sampler
-- ==== Proof.Args.lean ====
module

public import proofs.«01_k».proof.Proof.Row
public import Idealize.ShloMosaic.Lib.Pointwise

/-!
The row of the sampler that the argument arrays give for one sample and one batch entry.
-/

@[expose] public section

noncomputable section

namespace Sampler

open Idealize.ShloMosaic
open scoped BigOperators

/-- The argument arrays and the two masks: the context, the noise, the input weights, the hidden biases, the
    context weights, the output weights, the output biases, the mask of the input weights and the mask of
    either half of the output weights. -/
structure Args where
  ctx : FVec Ideal ⟨2, ![1024, 256]⟩ .f32
  eps : FVec Ideal ⟨3, ![4, 1024, 64]⟩ .f32
  w1 : FVec Ideal ⟨2, ![1024, 64]⟩ .f32
  b1 : FVec Ideal ⟨1, ![1024]⟩ .f32
  wc : FVec Ideal ⟨2, ![1024, 256]⟩ .f32
  wo : FVec Ideal ⟨2, ![128, 1024]⟩ .f32
  bo : FVec Ideal ⟨1, ![128]⟩ .f32
  inMask : FVec Ideal ⟨2, ![1024, 64]⟩ .f32
  outMask : FVec Ideal ⟨2, ![64, 1024]⟩ .f32

/-- The row for sample `s` of batch entry `b`. -/
def Args.row (A : Args) (s : Fin 4) (b : Fin 1024) : Row where
  start h := (∑ q : Fin 256, A.ctx (ix2 b q) * A.wc (ix2 h q)) + A.b1 (ix1 h)
  win h d := A.w1 (ix2 h d) * A.inMask (ix2 h d)
  wmu i h := A.wo (ix2 (⟨i.val, by omega⟩ : Fin 128) h) * A.outMask (ix2 i h)
  wsc i h := A.wo (ix2 (⟨64 + i.val, by omega⟩ : Fin 128) h) * A.outMask (ix2 i h)
  bmu i := A.bo (ix1 (⟨i.val, by omega⟩ : Fin 128))
  bsc i := A.bo (ix1 (⟨64 + i.val, by omega⟩ : Fin 128))
  noise i := A.eps (ix3 s b i)

/-- Every row's samples, as one array. -/
def Args.z (A : Args) : FVec Ideal ⟨3, ![4, 1024, 64]⟩ .f32 := fun j => (A.row (j 0) (j 1)).z (j 2)

/-- Every row's means, as one array. -/
def Args.mu (A : Args) : FVec Ideal ⟨3, ![4, 1024, 64]⟩ .f32 := fun j => (A.row (j 0) (j 1)).mu (j 2)

/-- Every row's scales, as one array. -/
def Args.sc (A : Args) : FVec Ideal ⟨3, ![4, 1024, 64]⟩ .f32 := fun j => (A.row (j 0) (j 1)).sc (j 2)

end Sampler
-- ==== Proof.KerEntry.lean ====
module

public import proofs.«01_k».proof.Proof.Args
public import proofs.«01_k».proof.Proof.Gen.KernelIdeal.Frame
public import Idealize.ShloMosaic.Lib.Pointwise
public import Idealize.ShloMosaic.Lib.StableHlo.RunRead

/-!
The arrays the kernel's grid reads, from the arguments.
-/

@[expose] public section

set_option maxRecDepth 16384

noncomputable section

namespace Sampler.Ker

open Cert.KernelIdeal Cert.KernelIdeal.Gen Idealize.ShloMosaic Idealize.ShloMosaic.TcCoe
open Idealize.SL.Sem Idealize.ShloMosaic.StableHlo
open scoped BigOperators

variable (m : (ℓ : Loc nD τ sig) → Buf (Elt Ideal) ℓ) (c : Dev nD)

/-- The mask the kernel multiplies the scales' output weights with. -/
def scMask : FVec Ideal S64x1024 .f32 := fun i => FloatOps.ofBits .f32 (lit2 (S64x1024.rowMajor i))

/-- The arguments, and the masks the kernel multiplies the input weights and the means' output weights with. -/
def args : Args where
  ctx := m ((c : Thread nD τ).loc main_arg0)
  eps := m ((c : Thread nD τ).loc main_arg1)
  w1 := m ((c : Thread nD τ).loc main_arg2)
  b1 := m ((c : Thread nD τ).loc main_arg3)
  wc := m ((c : Thread nD τ).loc main_arg4)
  wo := m ((c : Thread nD τ).loc main_arg5)
  bo := m ((c : Thread nD τ).loc main_arg6)
  inMask := fun i => FloatOps.ofBits .f32 (lit0 (S1024x64.rowMajor i))
  outMask := fun i => FloatOps.ofBits .f32 (lit1 (S64x1024.rowMajor i))

/-- The context weights, transposed. -/
theorem entry_wc (q : Fin 256) (h : Fin 1024) :
    (V m c main_v2 : FVec Ideal S256x1024 .f32) (ix2 q h) = (args m c).wc (ix2 h q) := by
  have e : (V m c main_v2 : FVec Ideal S256x1024 .f32)
      = transpose S256x1024 [1, 0] (args m c).wc transposes_S1024x256_S256x1024_1_0 := by
    show StableHlo.after _ _ _ = _
    after_reads_simp
    rfl
  rw [e]
  pointwise

/-- The hidden biases, as one row. -/
theorem entry_b1 (h : Fin 1024) :
    (V m c main_v7 : FVec Ideal S1x1024 .f32) (ix2 0 h) = (args m c).b1 (ix1 h) := by
  have e : (V m c main_v7 : FVec Ideal S1x1024 .f32) = shapeCast S1x1024 (args m c).b1 shapeCasts_S1024_S1x1024 := by
    show StableHlo.after _ _ _ = _
    after_reads_simp
    rfl
  rw [e]
  pointwise

/-- The masked input weights, transposed. -/
theorem entry_win (d : Fin 64) (h : Fin 1024) :
    (V m c main_v1 : FVec Ideal S64x1024 .f32) (ix2 d h) = ((args m c).row 0 0).win h d := by
  have e : (V m c main_v1 : FVec Ideal S64x1024 .f32)
      = transpose S64x1024 [1, 0] (mulf (F := Ideal) (φ := .f32) (args m c).w1 (args m c).inMask)
          transposes_S1024x64_S64x1024_1_0 := by
    show StableHlo.after _ _ _ = _
    after_reads_simp
    rfl
  rw [e]
  pointwise
  rfl

/-- The means' masked output weights. -/
theorem entry_wmu (i : Fin 64) (h : Fin 1024) :
    (V m c main_v4 : FVec Ideal S64x1024 .f32) (ix2 i h) = ((args m c).row 0 0).wmu i h := by
  have e : (V m c main_v4 : FVec Ideal S64x1024 .f32)
      = mulf (F := Ideal) (φ := .f32) (extractStridedSlice S64x1024 ![0, 0] (args m c).wo slices_S128x1024_S64x1024_0_0)
          (args m c).outMask := by
    show StableHlo.after _ _ _ = _
    after_reads_simp
    rfl
  rw [e]
  pointwise
  rfl

/-- The scales' masked output weights. -/
theorem entry_wsc (i : Fin 64) (h : Fin 1024) (hm : scMask = (args m c).outMask) :
    (V m c main_v6 : FVec Ideal S64x1024 .f32) (ix2 i h) = ((args m c).row 0 0).wsc i h := by
  have e : (V m c main_v6 : FVec Ideal S64x1024 .f32)
      = mulf (F := Ideal) (φ := .f32) (extractStridedSlice S64x1024 ![64, 0] (args m c).wo slices_S128x1024_S64x1024_64_0)
          scMask := by
    show StableHlo.after _ _ _ = _
    after_reads_simp
    rfl
  rw [e, hm]
  pointwise
  rfl

/-- The means' output biases, as one row. -/
theorem entry_bmu (i : Fin 64) :
    (V m c main_v9 : FVec Ideal S1x64 .f32) (ix2 0 i) = ((args m c).row 0 0).bmu i := by
  have e : (V m c main_v9 : FVec Ideal S1x64 .f32)
      = shapeCast S1x64 (extractStridedSlice S64 ![0] (args m c).bo slices_S128_S64_0) shapeCasts_S64_S1x64 := by
    show StableHlo.after _ _ _ = _
    after_reads_simp
    rfl
  rw [e]
  pointwise
  rfl

/-- The scales' output biases, as one row. -/
theorem entry_bsc (i : Fin 64) :
    (V m c main_v11 : FVec Ideal S1x64 .f32) (ix2 0 i) = ((args m c).row 0 0).bsc i := by
  have e : (V m c main_v11 : FVec Ideal S1x64 .f32)
      = shapeCast S1x64 (extractStridedSlice S64 ![64] (args m c).bo slices_S128_S64_64) shapeCasts_S64_S1x64 := by
    show StableHlo.after _ _ _ = _
    after_reads_simp
    rfl
  rw [e]
  pointwise
  rfl

end Sampler.Ker
-- ==== Proof.Softplus.lean ====
module

public import proofs.«01_k».proof.Proof.Row
public import Idealize.ShloMosaic.Lib.Pointwise
public import Idealize.ShloMosaic.Lib.Scf

/-!
Two spellings of the softplus at one value, and the indicator a comparison of two small numbers gives.
-/

@[expose] public section

noncomputable section

namespace Sampler

open Idealize.ShloMosaic

/-- The select on "a value differs from itself" takes its second branch, here with `0 - |x|` in the exponent. -/
theorem softplus_sub (x a : EReal) :
    (if x ≠ x then a else max x 0 + Ideal.log1p (Ideal.exp (0 - max x (-x)))) = softplus x := by
  rw [if_neg (not_not.mpr rfl), zero_sub]; rfl

/-- The same with `-|x|` in the exponent. -/
theorem softplus_neg (x a : EReal) :
    (if x ≠ x then a else max x 0 + Ideal.log1p (Ideal.exp (-(max x (-x))))) = softplus x := by
  rw [if_neg (not_not.mpr rfl)]; rfl

/-- The comparison of two numbers below 64 as words, widened and read as a number, the second as a counted
    loop's induction variable. -/
theorem indicator_eq : ∀ i k : Fin 64,
    ((IntOp.cmpi .eq (BitVec.ofNat 32 i.val) (Scf.iv 0#32 1#32 k.val)).setWidth 32).toInt
      = if i = k then 1 else 0 := by decide +kernel

end Sampler
-- ==== Proof.Pay.lean ====
module

public import proofs.«01_k».proof.Proof.Softplus
public import proofs.«01_k».proof.Proof.Gen.KernelIdeal.Skeleton
public import Idealize.ShloMosaic.Lib.Pointwise

/-!
The values one trip of the kernel's loop computes from what it loads, read element by element.
-/

@[expose] public section

set_option maxRecDepth 16384

noncomputable section

namespace Sampler.Ker

open Cert.KernelIdeal Cert.KernelIdeal.Gen Idealize.ShloMosaic Idealize.SL.Sem
open scoped BigOperators

/-- The lane numbers. -/
abbrev lanes : IVec S1x64 32 := iota .tc S1x64 32 [1] iota_S1x64_d1_w32

/-- The starting activation of the block's row `p`. -/
theorem pay1_apply (v0 : FVec Ideal S256x256 .f32) (v1 : FVec Ideal S256x1024 .f32) (v4 : FVec Ideal S1x1024 .f32)
    (p : Fin 256) (h : Fin 1024) :
    k0_pay1 (F := Ideal) v0 v1 v4 (ix2 p h) = (∑ q : Fin 256, v0 (ix2 p q) * v1 (ix2 q h)) + v4 (ix2 0 h) := by
  pointwise [k0_pay1]

theorem pay2_apply (p : Fin 256) (d : Fin 64) : k0_pay2 (F := Ideal) (ix2 p d) = 0 := by
  pointwise [k0_pay2]

/-- The indicator of lane `i`, at the trip whose number it is. -/
theorem pay12_apply (k : Fin k0_t1_loop.trips) (i : Fin 64) (hk : k.val = i.val) (d : Fin 64) :
    k0_pay12 (F := Ideal) lanes 0#32 1#32 k (ix2 0 d) = if d = i then 1 else 0 := by
  pointwise [k0_pay12, lanes]
  have e := indicator_eq d i
  rw [← hk] at e
  show (((BitVec.toInt _ : ℤ) : ℝ) : EReal) = _
  rw [e]
  by_cases hd : d = i <;> simp [hd]

section Trip

variable (k : Fin k0_t1_loop.trips) (i : Fin 64) (hk : k.val = i.val) (a : FVec Ideal S256x1024 .f32)
  (w w' u : FVec Ideal S1x1024 .f32) (bm bs : FVec Ideal S1x64 .f32) (e : FVec Ideal S1x256x64 .f32)
  (acc : FVec Ideal S256x64 .f32) (p : Fin 256)

include hk in
/-- The mean of entry `i`, in the block's row `p`. -/
theorem pay14_apply :
    k0_pay14 (F := Ideal) lanes 0#32 1#32 k a w bm (ix2 p 0)
      = (∑ h : Fin 1024, max (a (ix2 p h)) 0 * w (ix2 0 h)) + bm (ix2 0 i) := by
  pointwise [k0_pay14, k0_pay13]
  simp only [pay12_apply k i hk]
  rw [Row.sum_indicator (fun i => bm (ix2 0 i))]

include hk in
/-- What the scale of entry `i` is the softplus of. -/
theorem pay15_apply :
    k0_pay15 (F := Ideal) lanes 0#32 1#32 k a w' bs (ix2 p 0)
      = (∑ h : Fin 1024, max (a (ix2 p h)) 0 * w' (ix2 0 h)) + bs (ix2 0 i) := by
  pointwise [k0_pay15, k0_pay13]
  simp only [pay12_apply k i hk]
  rw [Row.sum_indicator (fun i => bs (ix2 0 i))]

include hk in
/-- The scale of entry `i`, in the block's row `p`. -/
theorem pay3_apply :
    k0_pay3 (F := Ideal) (k0_pay16 (F := Ideal) lanes 0#32 1#32 k a w' bs) (k0_pay18 (F := Ideal) lanes 0#32 1#32 k a w' bs)
      (k0_pay19 (F := Ideal) lanes 0#32 1#32 k a w' bs) (k0_pay20 (F := Ideal) lanes 0#32 1#32 k a w' bs)
      (k0_pay21 (F := Ideal)) (ix2 p 0)
      = softplus ((∑ h : Fin 1024, max (a (ix2 p h)) 0 * w' (ix2 0 h)) + bs (ix2 0 i)) := by
  pointwise [k0_pay3, k0_pay16, k0_pay17, k0_pay18, k0_pay19, k0_pay20, k0_pay21]
  rw [pay15_apply k i hk]
  exact softplus_sub _ _

end Trip

section Store

variable (k : Fin k0_t1_loop.trips) (i : Fin 64) (hk : k.val = i.val)
  (m r0 : FVec Ideal S256x1 .f32) (c0 : IVec S256x1 1) (r1 r2 r3 : FVec Ideal S256x1 .f32)
  (a : FVec Ideal S256x1024 .f32) (u : FVec Ideal S1x1024 .f32) (e : FVec Ideal S1x256x64 .f32)
  (acc : FVec Ideal S256x64 .f32) (p : Fin 256)

include hk in
/-- The sample of entry `i`: the mean plus the scale times the noise. -/
theorem pay4_apply :
    k0_pay4 (F := Ideal) e (k0_pay12 (F := Ideal) lanes 0#32 1#32 k) m r0 c0 r1 r2 r3 (ix2 p 0)
      = m (ix2 p 0) + k0_pay3 (F := Ideal) r0 c0 r1 r2 r3 (ix2 p 0) * e (ix3 0 p i) := by
  pointwise [k0_pay4]
  simp only [pay12_apply k i hk]
  rw [Row.sum_indicator (fun i => e (ix3 0 p i))]

/-- The activation after the trip. -/
theorem pay5_apply (v : FVec Ideal S1x64 .f32) (h : Fin 1024) :
    k0_pay5 (F := Ideal) e v m r0 c0 r1 r2 r3 a u (ix2 p h)
      = a (ix2 p h) + k0_pay4 (F := Ideal) e v m r0 c0 r1 r2 r3 (ix2 p 0) * u (ix2 0 h) := by
  pointwise [k0_pay5]

include hk in
/-- The samples after the trip. -/
theorem pay6_apply (d : Fin 64) :
    k0_pay6 (F := Ideal) e acc (k0_pay12 (F := Ideal) lanes 0#32 1#32 k) m r0 c0 r1 r2 r3 (ix2 p d)
      = acc (ix2 p d) + k0_pay4 (F := Ideal) e (k0_pay12 (F := Ideal) lanes 0#32 1#32 k) m r0 c0 r1 r2 r3 (ix2 p 0)
          * (if d = i then 1 else 0) := by
  pointwise [k0_pay6]
  rw [pay12_apply k i hk]

include hk in
/-- The means after the trip. -/
theorem pay7_apply (d : Fin 64) :
    k0_pay7 (F := Ideal) acc (k0_pay12 (F := Ideal) lanes 0#32 1#32 k) m (ix2 p d)
      = acc (ix2 p d) + m (ix2 p 0) * (if d = i then 1 else 0) := by
  pointwise [k0_pay7]
  rw [pay12_apply k i hk]

include hk in
/-- The scales after the trip. -/
theorem pay8_apply (d : Fin 64) :
    k0_pay8 (F := Ideal) acc (k0_pay12 (F := Ideal) lanes 0#32 1#32 k) r0 c0 r1 r2 r3 (ix2 p d)
      = acc (ix2 p d) + k0_pay3 (F := Ideal) r0 c0 r1 r2 r3 (ix2 p 0) * (if d = i then 1 else 0) := by
  pointwise [k0_pay8]
  rw [pay12_apply k i hk]

theorem pay9_apply (d : Fin 64) : k0_pay9 (F := Ideal) acc (ix3 0 p d) = acc (ix2 p d) := by
  pointwise [k0_pay9]

theorem pay10_apply (d : Fin 64) : k0_pay10 (F := Ideal) acc (ix3 0 p d) = acc (ix2 p d) := by
  pointwise [k0_pay10]

theorem pay11_apply (d : Fin 64) : k0_pay11 (F := Ideal) acc (ix3 0 p d) = acc (ix2 p d) := by
  pointwise [k0_pay11]

end Store

end Sampler.Ker
-- ==== Proof.Step.lean ====
module

public import proofs.«01_k».proof.Proof.Pay

/-!
One trip of the kernel's loop advances every row of the block by one step of the sampler.
-/

@[expose] public section

set_option maxRecDepth 16384

noncomputable section

namespace Sampler.Ker

open Cert.KernelIdeal Cert.KernelIdeal.Gen Idealize.ShloMosaic Idealize.SL.Sem
open scoped BigOperators

/-- What the block's rows read: the starting activations, the input weights (transposed), the output weights
    and biases of the means and of the scales, and the noise. -/
structure Tile where
  start : FVec Ideal S256x1024 .f32
  win : FVec Ideal S64x1024 .f32
  wmu : FVec Ideal S64x1024 .f32
  wsc : FVec Ideal S64x1024 .f32
  bmu : FVec Ideal S1x64 .f32
  bsc : FVec Ideal S1x64 .f32
  noise : FVec Ideal S1x256x64 .f32

/-- Row `p` of the block. -/
def Tile.row (T : Tile) (p : Fin 256) : Row where
  start h := T.start (ix2 p h)
  win h d := T.win (ix2 d h)
  wmu i h := T.wmu (ix2 i h)
  wsc i h := T.wsc (ix2 i h)
  bmu i := T.bmu (ix2 0 i)
  bsc i := T.bsc (ix2 0 i)
  noise i := T.noise (ix3 0 p i)

variable (T : Tile) (k : Fin k0_t1_loop.trips) (i : Fin 64) (hk : k.val = i.val)
  (a : FVec Ideal S256x1024 .f32) (w w' u : FVec Ideal S1x1024 .f32) (acc : FVec Ideal S256x64 .f32) (p : Fin 256)

/-- The mean trip `k` draws, in each row of the block. -/
abbrev meanOf : FVec Ideal S256x1 .f32 := k0_pay14 (F := Ideal) lanes 0#32 1#32 k a w T.bmu

/-- The scale trip `k` draws, in each row of the block. -/
abbrev scaleOf : FVec Ideal S256x1 .f32 :=
  k0_pay3 (F := Ideal) (k0_pay16 (F := Ideal) lanes 0#32 1#32 k a w' T.bsc) (k0_pay18 (F := Ideal) lanes 0#32 1#32 k a w' T.bsc)
    (k0_pay19 (F := Ideal) lanes 0#32 1#32 k a w' T.bsc) (k0_pay20 (F := Ideal) lanes 0#32 1#32 k a w' T.bsc) (k0_pay21 (F := Ideal))

/-- The sample trip `k` draws, in each row of the block. -/
abbrev drawOf : FVec Ideal S256x1 .f32 :=
  k0_pay4 (F := Ideal) T.noise (k0_pay12 (F := Ideal) lanes 0#32 1#32 k) (meanOf T k a w)
    (k0_pay16 (F := Ideal) lanes 0#32 1#32 k a w' T.bsc) (k0_pay18 (F := Ideal) lanes 0#32 1#32 k a w' T.bsc)
    (k0_pay19 (F := Ideal) lanes 0#32 1#32 k a w' T.bsc) (k0_pay20 (F := Ideal) lanes 0#32 1#32 k a w' T.bsc) (k0_pay21 (F := Ideal))

/-- The activations trip `k` leaves. -/
abbrev nextAct : FVec Ideal S256x1024 .f32 :=
  k0_pay5 (F := Ideal) T.noise (k0_pay12 (F := Ideal) lanes 0#32 1#32 k) (meanOf T k a w)
    (k0_pay16 (F := Ideal) lanes 0#32 1#32 k a w' T.bsc) (k0_pay18 (F := Ideal) lanes 0#32 1#32 k a w' T.bsc)
    (k0_pay19 (F := Ideal) lanes 0#32 1#32 k a w' T.bsc) (k0_pay20 (F := Ideal) lanes 0#32 1#32 k a w' T.bsc) (k0_pay21 (F := Ideal)) a u

/-- The samples trip `k` leaves. -/
abbrev nextZ : FVec Ideal S256x64 .f32 :=
  k0_pay6 (F := Ideal) T.noise acc (k0_pay12 (F := Ideal) lanes 0#32 1#32 k) (meanOf T k a w)
    (k0_pay16 (F := Ideal) lanes 0#32 1#32 k a w' T.bsc) (k0_pay18 (F := Ideal) lanes 0#32 1#32 k a w' T.bsc)
    (k0_pay19 (F := Ideal) lanes 0#32 1#32 k a w' T.bsc) (k0_pay20 (F := Ideal) lanes 0#32 1#32 k a w' T.bsc) (k0_pay21 (F := Ideal))

/-- The means trip `k` leaves. -/
abbrev nextMu : FVec Ideal S256x64 .f32 :=
  k0_pay7 (F := Ideal) acc (k0_pay12 (F := Ideal) lanes 0#32 1#32 k) (meanOf T k a w)

/-- The scales trip `k` leaves. -/
abbrev nextSc : FVec Ideal S256x64 .f32 :=
  k0_pay8 (F := Ideal) acc (k0_pay12 (F := Ideal) lanes 0#32 1#32 k)
    (k0_pay16 (F := Ideal) lanes 0#32 1#32 k a w' T.bsc) (k0_pay18 (F := Ideal) lanes 0#32 1#32 k a w' T.bsc)
    (k0_pay19 (F := Ideal) lanes 0#32 1#32 k a w' T.bsc) (k0_pay20 (F := Ideal) lanes 0#32 1#32 k a w' T.bsc) (k0_pay21 (F := Ideal))

/-- The activations hold every row's activation before step `k`. -/
def Holds (k : ℕ) (a : FVec Ideal S256x1024 .f32) : Prop := ∀ p h, a (ix2 p h) = (T.row p).act k h

/-- The accumulator holds the first `k` entries of `f`, row by row, and zeros after them. -/
def Filled (f : Row → Fin 64 → EReal) (k : ℕ) (acc : FVec Ideal S256x64 .f32) : Prop :=
  ∀ p d, acc (ix2 p d) = Row.upTo k (f (T.row p)) d

variable (ha : Holds T k.val a) (hw : ∀ h, w (ix2 0 h) = T.wmu (ix2 i h)) (hw' : ∀ h, w' (ix2 0 h) = T.wsc (ix2 i h))
  (hu : ∀ h, u (ix2 0 h) = T.win (ix2 i h))

include hk ha hw in
theorem meanOf_apply : meanOf T k a w (ix2 p 0) = (T.row p).mu i := by
  rw [meanOf, pay14_apply k i hk]
  simp only [ha p, hw, hk]
  rfl

include hk ha hw' in
theorem scaleOf_apply : scaleOf T k a w' (ix2 p 0) = (T.row p).sc i := by
  rw [scaleOf, pay3_apply k i hk]
  simp only [ha p, hw', hk]
  rfl

include hk ha hw hw' in
theorem drawOf_apply : drawOf T k a w w' (ix2 p 0) = (T.row p).z i := by
  have e := scaleOf_apply T k i hk a w' p ha hw'
  rw [scaleOf] at e
  rw [drawOf, pay4_apply k i hk, meanOf_apply T k i hk a w p ha hw, e]
  rfl

include hk ha hw hw' hu in
/-- A trip takes the activations one step on. -/
theorem nextAct_holds : Holds T (k.val + 1) (nextAct T k a w w' u) := fun p h => by
  have e := drawOf_apply T k i hk a w w' p ha hw hw'
  rw [drawOf] at e
  rw [nextAct, pay5_apply, e, ha p, hu, hk, Row.act_succ]
  rfl

include hk ha hw hw' in
/-- A trip writes its sample into its lane. -/
theorem nextZ_filled (hz : Filled T Row.z k.val acc) : Filled T Row.z (k.val + 1) (nextZ T k a w w' acc) := fun p d => by
  have e := drawOf_apply T k i hk a w w' p ha hw hw'
  rw [drawOf] at e
  rw [nextZ, pay6_apply k i hk, e, hz p, hk, Row.upTo_succ]

include hk ha hw in
/-- A trip writes its mean into its lane. -/
theorem nextMu_filled (hz : Filled T Row.mu k.val acc) : Filled T Row.mu (k.val + 1) (nextMu T k a w acc) := fun p d => by
  rw [nextMu, pay7_apply k i hk, meanOf_apply T k i hk a w p ha hw, hz p, hk, Row.upTo_succ]

include hk ha hw' in
/-- A trip writes its scale into its lane. -/
theorem nextSc_filled (hz : Filled T Row.sc k.val acc) : Filled T Row.sc (k.val + 1) (nextSc T k a w' acc) := fun p d => by
  have e := scaleOf_apply T k i hk a w' p ha hw'
  rw [scaleOf] at e
  rw [nextSc, pay8_apply k i hk, e, hz p, hk, Row.upTo_succ]

end Sampler.Ker
-- ==== Proof.Loop.lean ====
module

public import proofs.«01_k».proof.Proof.Step
public import proofs.«01_k».proof.Proof.Gen.KernelIdeal.Loops
public import Idealize.ShloMosaic.Lib.Pipeline.Value
public import Idealize.ShloMosaic.Lib.Pipeline.ValueKit.Tiles
public import Idealize.ShloMosaic.Lib.WritesUnit
public import Idealize.ShloMosaic.Lib.UnfoldOut

/-!
The kernel's loop: what it carries and what the scratch holds before each trip.
-/

@[expose] public section

set_option maxRecDepth 16384

noncomputable section

namespace Sampler.Ker

open Cert.KernelIdeal Cert.KernelIdeal.Gen Idealize.ShloMosaic Idealize.ShloMosaic.TcCoe Idealize.SL.Sem

/-- The row of a weight table that trip `k` loads. -/
abbrev rowAt (x : FVec Ideal S64x1024 .f32) (k : Fin k0_t1_loop.trips) : FVec Ideal S1x1024 .f32 :=
  View.ld (Val := Elt Ideal) (e' := .f32) x (Rect.unit (s := S64x1024) (k0_off1 k) S1x1024.size (k0_off1_inb k))

/-- It is the table's row of that number. -/
theorem rowAt_apply (x : FVec Ideal S64x1024 .f32) (k : Fin k0_t1_loop.trips) (i : Fin 64) (hk : k.val = i.val)
    (h : Fin 1024) : rowAt x k (ix2 0 h) = x (ix2 i h) := by
  refine View.ld_unit_apply_of (Val := Elt Ideal) (e := .f32) x _ _ (k0_off1_inb k) (ix2 0 h) (ix2 i h) fun a => ?_
  match a with
  | ⟨0, _⟩ =>
    show i.val = (Scf.iv 0#32 1#32 k.val).toNat + 0
    rw [hk]
    have : ∀ i : Fin 64, i.val = (Scf.iv 0#32 1#32 i.val).toNat + 0 := by decide
    exact this i
  | ⟨1, _⟩ =>
    show h.val = 0 + h.val
    omega

theorem zero_two : (![0, 0] : Fin 2 → ℕ) = fun _ => 0 := by funext a; fin_cases a <;> rfl

section Loop

variable (𝒱 : Variants) (c : Dev nD) (bd : Option 𝒱.V) (i : grid0.Coords)
  (arg2 : Memref sig .tc .vmem S256x256 .f32) (harg2 : arg2.IsWhole)
  (arg3 : Memref sig .tc .vmem S1x256x64 .f32) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S64x1024 .f32) (harg6 : arg6.IsWhole)
  (arg7 : Memref sig .tc .vmem S64x1024 .f32) (harg7 : arg7.IsWhole)
  (arg8 : Memref sig .tc .vmem S64x1024 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x256x64 .f32) (harg11 : arg11.IsWhole)
  (arg12 : Memref sig .tc .vmem S1x256x64 .f32) (harg12 : arg12.IsWhole)
  (arg13 : Memref sig .tc .vmem S1x256x64 .f32) (harg13 : arg13.IsWhole)
  (arg14 : Memref sig .tc .vmem S256x1024 .f32) (harg14 : arg14.IsWhole)
  (T : Tile) (k : Fin k0_t1_loop.trips)
  (acc : FVec Ideal S256x64 .f32 × FVec Ideal S256x64 .f32 × FVec Ideal S256x64 .f32)
  (f : BufTy.Contents (Elt Ideal) arg14.view.ty)

/-- What a trip carries on: the accumulators with the trip's entries added. -/
theorem trip_carried :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 T.noise lanes
      (harg6.unread T.win) (harg7.unread T.wmu) (harg8.unread T.wsc) (harg9.unread T.bmu) (harg10.unread T.bsc) k acc f
    = (nextZ T k (arg14.view.read (Elt Ideal) f) (rowAt T.wmu k) (rowAt T.wsc k) acc.1,
       nextMu T k (arg14.view.read (Elt Ideal) f) (rowAt T.wmu k) acc.2.1,
       nextSc T k (arg14.view.read (Elt Ideal) f) (rowAt T.wsc k) acc.2.2) := by
  unfold tripR_k0_t1 trip_k0_t1
  dsimp only
  sl_unfold_words
  simp only [View.readAt_eq_ld, harg6.read_unread, harg7.read_unread, harg8.read_unread, harg9.read_unread,
    harg10.read_unread, View.ld_unit_zero (S := S256x1024) zero_two, View.ld_unit_zero (S := S1x64) zero_two]
  rfl

/-- What a trip stores: the next activations, over the whole scratch. -/
theorem trip_stored :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 T.noise lanes
      (harg6.unread T.win) (harg7.unread T.wmu) (harg8.unread T.wsc) (harg9.unread T.bmu) (harg10.unread T.bsc) k acc f
    = [⟨Rect.unit ![0, 0] S256x1024.size inb_S256x1024_S256x1024_0_0,
        nextAct T k (arg14.view.read (Elt Ideal) f) (rowAt T.wmu k) (rowAt T.wsc k) (rowAt T.win k)⟩] := by
  unfold tripL_k0_t1 trip_k0_t1
  dsimp only
  sl_unfold_words
  simp only [View.readAt_eq_ld, harg6.read_unread, harg7.read_unread, harg8.read_unread, harg9.read_unread,
    harg10.read_unread, View.ld_unit_zero (S := S256x1024) zero_two, View.ld_unit_zero (S := S1x64) zero_two]
  rfl

variable (G : BufTy.Contents (Elt Ideal) arg14.view.ty)

/-- The loop's state before trip `n`, the noise and the tables being the block's. -/
abbrev loopAt (n : ℕ) :=
  st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 T.noise lanes
      (harg6.unread T.win) (harg7.unread T.wmu) (harg8.unread T.wsc) (harg9.unread T.bmu) (harg10.unread T.bsc) G (k0_pay2 (F := Ideal), k0_pay2 (F := Ideal), k0_pay2 (F := Ideal)) n

/-- Before trip `n` the accumulators hold the first `n` entries, and the scratch the activations before step `n`. -/
theorem loop_state (hG : Holds T 0 (arg14.view.read (Elt Ideal) G)) (n : ℕ) (hn : n ≤ 64) :
    Filled T Row.z n (loopAt 𝒱 c bd i arg2 harg2 arg3 harg3 arg4 harg4 arg5 harg5 arg6 harg6 arg7 harg7 arg8 harg8 arg9 harg9 arg10 harg10 arg11 harg11 arg12 harg12 arg13 harg13 arg14 harg14 T G n).1.1
    ∧ Filled T Row.mu n (loopAt 𝒱 c bd i arg2 harg2 arg3 harg3 arg4 harg4 arg5 harg5 arg6 harg6 arg7 harg7 arg8 harg8 arg9 harg9 arg10 harg10 arg11 harg11 arg12 harg12 arg13 harg13 arg14 harg14 T G n).1.2.1
    ∧ Filled T Row.sc n (loopAt 𝒱 c bd i arg2 harg2 arg3 harg3 arg4 harg4 arg5 harg5 arg6 harg6 arg7 harg7 arg8 harg8 arg9 harg9 arg10 harg10 arg11 harg11 arg12 harg12 arg13 harg13 arg14 harg14 T G n).1.2.2
    ∧ Holds T n (arg14.view.read (Elt Ideal) (arg14.view.writes (Elt Ideal) G (loopAt 𝒱 c bd i arg2 harg2 arg3 harg3 arg4 harg4 arg5 harg5 arg6 harg6 arg7 harg7 arg8 harg8 arg9 harg9 arg10 harg10 arg11 harg11 arg12 harg12 arg13 harg13 arg14 harg14 T G n).2)) := by
  induction n with
  | zero =>
    refine ⟨fun p d => ?_, fun p d => ?_, fun p d => ?_, hG⟩ <;>
    · rw [Row.upTo_zero]; exact pay2_apply p d
  | succ n ih =>
    have hnt : n < k0_t1_loop.trips := by have : k0_t1_loop.trips = 64 := by decide
                                          omega
    obtain ⟨hz, hm, hs, ha⟩ := ih (by omega)
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 T.noise lanes
      (harg6.unread T.win) (harg7.unread T.wmu) (harg8.unread T.wsc) (harg9.unread T.bmu) (harg10.unread T.bsc) G (k0_pay2 (F := Ideal), k0_pay2 (F := Ideal), k0_pay2 (F := Ideal)) ⟨n, hnt⟩
    rw [trip_carried, trip_stored] at e
    have e1 := congrArg Prod.fst e
    have e2 := congrArg Prod.snd e
    clear e
    have hw := fun h => rowAt_apply T.wmu ⟨n, hnt⟩ ⟨n, by omega⟩ rfl h
    have hw' := fun h => rowAt_apply T.wsc ⟨n, hnt⟩ ⟨n, by omega⟩ rfl h
    have hu := fun h => rowAt_apply T.win ⟨n, hnt⟩ ⟨n, by omega⟩ rfl h
    refine ⟨?_, ?_, ?_, ?_⟩
    · exact (congrArg Prod.fst e1) ▸ nextZ_filled T ⟨n, hnt⟩ ⟨n, by omega⟩ rfl _ _ _ _ ha hw hw' hz
    · exact (congrArg (fun x => x.2.1) e1) ▸ nextMu_filled T ⟨n, hnt⟩ ⟨n, by omega⟩ rfl _ _ _ ha hw hm
    · exact (congrArg (fun x => x.2.2) e1) ▸ nextSc_filled T ⟨n, hnt⟩ ⟨n, by omega⟩ rfl _ _ _ ha hw' hs
    · have h := nextAct_holds T ⟨n, hnt⟩ ⟨n, by omega⟩ rfl _ _ _ _ ha hw hw' hu
      intro p q
      refine Eq.trans ?_ (h p q)
      rw [loopAt, e2]
      exact View.read_writes_cons_unit_of_mem _ _ inb_S256x1024_S256x1024_0_0 _ _ (ix2 p q) (ix2 p q) rfl (fun a => by
        match a with
        | ⟨0, _⟩ => show p.val = 0 + p.val; omega
        | ⟨1, _⟩ => show q.val = 0 + q.val; omega)

end Loop

end Sampler.Ker
-- ==== Proof.Block.lean ====
module

public import proofs.«01_k».proof.Proof.Loop
public import proofs.«01_k».proof.Proof.Gen.KernelIdeal.Frame

/-!
What one block of the kernel's grid leaves in its outputs: each row's samples, means and scales.
-/

@[expose] public section

set_option maxRecDepth 16384

noncomputable section

namespace Sampler.Ker

open Cert.KernelIdeal Cert.KernelIdeal.Gen Idealize.ShloMosaic Idealize.ShloMosaic.TcCoe Idealize.SL.Sem

/-- What the rows of a block read, from the blocks of the kernel's operands. -/
def tileOf (x0 : Vec Ideal S256x256 .f32) (x1 : Vec Ideal S1x256x64 .f32) (x2 : Vec Ideal S256x1024 .f32) (x3 : Vec Ideal S1x1024 .f32) (x4 : Vec Ideal S64x1024 .f32) (x5 : Vec Ideal S64x1024 .f32) (x6 : Vec Ideal S64x1024 .f32) (x7 : Vec Ideal S1x64 .f32) (x8 : Vec Ideal S1x64 .f32) : Tile where
  start := k0_pay1 (F := Ideal) x0 x2 x3
  win := x4
  wmu := x5
  wsc := x6
  bmu := x7
  bsc := x8
  noise := x1

theorem zero_three : (![0, 0, 0] : Fin 3 → ℕ) = fun _ => 0 := by funext a; fin_cases a <;> rfl

variable (c : Dev nD) (i : grid0.Coords)
  (arg2 : Memref sig .tc .vmem S256x256 .f32) (harg2 : arg2.IsWhole)
  (arg3 : Memref sig .tc .vmem S1x256x64 .f32) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S64x1024 .f32) (harg6 : arg6.IsWhole)
  (arg7 : Memref sig .tc .vmem S64x1024 .f32) (harg7 : arg7.IsWhole)
  (arg8 : Memref sig .tc .vmem S64x1024 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x256x64 .f32) (harg11 : arg11.IsWhole)
  (arg12 : Memref sig .tc .vmem S1x256x64 .f32) (harg12 : arg12.IsWhole)
  (arg13 : Memref sig .tc .vmem S1x256x64 .f32) (harg13 : arg13.IsWhole)
  (arg14 : Memref sig .tc .vmem S256x1024 .f32) (harg14 : arg14.IsWhole)
  (x0 : Vec Ideal S256x256 .f32) (x1 : Vec Ideal S1x256x64 .f32) (x2 : Vec Ideal S256x1024 .f32) (x3 : Vec Ideal S1x1024 .f32) (x4 : Vec Ideal S64x1024 .f32) (x5 : Vec Ideal S64x1024 .f32) (x6 : Vec Ideal S64x1024 .f32) (x7 : Vec Ideal S1x64 .f32) (x8 : Vec Ideal S1x64 .f32)

/-- The scratch's contents when the loop starts. -/
abbrev startOf : BufTy.Contents (Elt Ideal) arg14.view.ty :=
  arg14.view.writes (Elt Ideal) arg14.view.junk
    [⟨Rect.unit ![0, 0] S256x1024.size inb_S256x1024_S256x1024_0_0, k0_pay1 (F := Ideal) x0 x2 x3⟩]

theorem start_holds : Holds (tileOf x0 x1 x2 x3 x4 x5 x6 x7 x8) 0 (arg14.view.read (Elt Ideal) (startOf arg14 x0 x2 x3)) := fun p q =>
  View.read_writes_cons_unit_of_mem _ _ inb_S256x1024_S256x1024_0_0 _ _ (ix2 p q) (ix2 p q) rfl (fun a => by
        match a with
        | ⟨0, _⟩ => show p.val = 0 + p.val; omega
        | ⟨1, _⟩ => show q.val = 0 + q.val; omega)

/-- The loop's state after all its trips. -/
abbrev lastOf := loopAt Variants.none c none i arg2 harg2 arg3 harg3 arg4 harg4 arg5 harg5 arg6 harg6 arg7 harg7 arg8 harg8 arg9 harg9 arg10 harg10 arg11 harg11 arg12 harg12 arg13 harg13 arg14 harg14 (tileOf x0 x1 x2 x3 x4 x5 x6 x7 x8) (startOf arg14 x0 x2 x3) 64

theorem out9_eq : out0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = k0_pay9 (F := Ideal) (lastOf c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1.1 := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  sl_unfold_words
  rw [View.canon_unit_zero (S := S1x256x64) zero_three]
  simp only [View.readAt_eq_ld, harg2.read_unread, harg3.read_unread, harg4.read_unread, harg5.read_unread,
    View.ld_unit_zero (S := S1x256x64) zero_three, View.ld_unit_zero (S := S256x1024) zero_two,
    View.ld_unit_zero (S := S256x256) zero_two, View.ld_unit_zero (S := S1x1024) zero_two]
  rfl

/-- The block's samples, row by row. -/
theorem out9_apply (p : Fin 256) (d : Fin 64) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 p d) = ((tileOf x0 x1 x2 x3 x4 x5 x6 x7 x8).row p).z d := by
  rw [out9_eq, pay9_apply]
  have h := (loop_state Variants.none c none i arg2 harg2 arg3 harg3 arg4 harg4 arg5 harg5 arg6 harg6 arg7 harg7 arg8 harg8 arg9 harg9 arg10 harg10 arg11 harg11 arg12 harg12 arg13 harg13 arg14 harg14 (tileOf x0 x1 x2 x3 x4 x5 x6 x7 x8) (startOf arg14 x0 x2 x3)
    (start_holds arg14 x0 x1 x2 x3 x4 x5 x6 x7 x8) 64 le_rfl).1 p d
  rw [Row.upTo_all] at h
  exact h

theorem out10_eq : out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = k0_pay10 (F := Ideal) (lastOf c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1.2.1 := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  sl_unfold_words
  rw [View.canon_unit_zero (S := S1x256x64) zero_three]
  simp only [View.readAt_eq_ld, harg2.read_unread, harg3.read_unread, harg4.read_unread, harg5.read_unread,
    View.ld_unit_zero (S := S1x256x64) zero_three, View.ld_unit_zero (S := S256x1024) zero_two,
    View.ld_unit_zero (S := S256x256) zero_two, View.ld_unit_zero (S := S1x1024) zero_two]
  rfl

/-- The block's means, row by row. -/
theorem out10_apply (p : Fin 256) (d : Fin 64) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 p d) = ((tileOf x0 x1 x2 x3 x4 x5 x6 x7 x8).row p).mu d := by
  rw [out10_eq, pay10_apply]
  have h := (loop_state Variants.none c none i arg2 harg2 arg3 harg3 arg4 harg4 arg5 harg5 arg6 harg6 arg7 harg7 arg8 harg8 arg9 harg9 arg10 harg10 arg11 harg11 arg12 harg12 arg13 harg13 arg14 harg14 (tileOf x0 x1 x2 x3 x4 x5 x6 x7 x8) (startOf arg14 x0 x2 x3)
    (start_holds arg14 x0 x1 x2 x3 x4 x5 x6 x7 x8) 64 le_rfl).2.1 p d
  rw [Row.upTo_all] at h
  exact h

theorem out11_eq : out0_A_11 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = k0_pay11 (F := Ideal) (lastOf c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1.2.2 := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  sl_unfold_words
  rw [View.canon_unit_zero (S := S1x256x64) zero_three]
  simp only [View.readAt_eq_ld, harg2.read_unread, harg3.read_unread, harg4.read_unread, harg5.read_unread,
    View.ld_unit_zero (S := S1x256x64) zero_three, View.ld_unit_zero (S := S256x1024) zero_two,
    View.ld_unit_zero (S := S256x256) zero_two, View.ld_unit_zero (S := S1x1024) zero_two]
  rfl

/-- The block's scales, row by row. -/
theorem out11_apply (p : Fin 256) (d : Fin 64) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 p d) = ((tileOf x0 x1 x2 x3 x4 x5 x6 x7 x8).row p).sc d := by
  rw [out11_eq, pay11_apply]
  have h := (loop_state Variants.none c none i arg2 harg2 arg3 harg3 arg4 harg4 arg5 harg5 arg6 harg6 arg7 harg7 arg8 harg8 arg9 harg9 arg10 harg10 arg11 harg11 arg12 harg12 arg13 harg13 arg14 harg14 (tileOf x0 x1 x2 x3 x4 x5 x6 x7 x8) (startOf arg14 x0 x2 x3)
    (start_holds arg14 x0 x1 x2 x3 x4 x5 x6 x7 x8) 64 le_rfl).2.2.1 p d
  rw [Row.upTo_all] at h
  exact h

end Sampler.Ker
-- ==== Proof.Array.lean ====
module

public import proofs.«01_k».proof.Proof.KerEntry
public import proofs.«01_k».proof.Proof.Block
public import proofs.«01_k».proof.Proof.Gen.KernelIdeal.Value

/-!
What the kernel's three result arrays hold: every row's samples, means and scales.
-/

@[expose] public section

set_option maxRecDepth 16384

noncomputable section

namespace Sampler.Ker

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The sample a grid point works on. -/
abbrev sampleAt (t : Fin cfg0.N) : Fin 4 := ⟨t.val / 4, by have h : cfg0.N = 16 := N_0; have := t.isLt; omega⟩

/-- The batch entry of row `p` of a grid point's block. -/
abbrev entryAt (t : Fin cfg0.N) (p : Fin 256) : Fin 1024 := ⟨t.val % 4 * 256 + p.val, by omega⟩

theorem index0 : ∀ t : Fin cfg0.N, win0_0.index t 0 = t.val % 4 ∧ win0_0.index t 1 = 0 :=
  (by decide +kernel : ∀ t : Fin grid0.N, win0_0.index t 0 = t.val % 4 ∧ win0_0.index t 1 = 0)

theorem index1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = 0 ∧ win0_7.index t 1 = 0 :=
  (by decide +kernel : ∀ t : Fin grid0.N, win0_7.index t 0 = 0 ∧ win0_7.index t 1 = 0)

theorem index8 : ∀ t : Fin cfg0.N, win0_8.index t 0 = 0 ∧ win0_8.index t 1 = 0 :=
  (by decide +kernel : ∀ t : Fin grid0.N, win0_8.index t 0 = 0 ∧ win0_8.index t 1 = 0)

/-- The context block of a point. -/
theorem block0 (t : Fin cfg0.N) (p q : Fin 256) :
    (iblk m c 0 t : Vec Ideal S256x256 .f32) (ix2 p q) = (args m c).ctx (ix2 (entryAt t p) q) := by
  have hi := index0 t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 256 + 1 * p.val = t.val % 4 * 256 + p.val; rw [hi.1]; omega
  | ⟨1, _⟩ => show win0_0.index t 1 * 256 + 1 * q.val = q.val; rw [hi.2]; omega

/-- The noise block of a point. -/
theorem block1 (t : Fin cfg0.N) (p : Fin 256) (d : Fin 64) :
    (iblk m c 1 t : Vec Ideal S1x256x64 .f32) (ix3 0 p d) = (args m c).eps (ix3 (sampleAt t) (entryAt t p) d) := by
  have hi := index1 t
  unfold iblk
  rw [View.read_apply]
  show V m c main_arg1 _ = _
  rw [V_main_arg1]
  show m (c.tc.loc main_arg1) _ = m (c.tc.loc main_arg1) _
  congr 1
  funext a
  apply Fin.ext
  match a with
  | ⟨0, _⟩ => show win0_1.index t 0 * 1 + 1 * 0 = t.val / 4; rw [hi.1]; omega
  | ⟨1, _⟩ => show win0_1.index t 1 * 256 + 1 * p.val = t.val % 4 * 256 + p.val; rw [hi.2.1]; omega
  | ⟨2, _⟩ => show win0_1.index t 2 * 64 + 1 * d.val = d.val; rw [hi.2.2]; omega

/-- The context weights come whole to every point. -/
theorem block2 (t : Fin cfg0.N) (p : Fin 256) (q : Fin 1024) :
    (iblk m c 2 t : Vec Ideal S256x1024 .f32) (ix2 p q) = (V m c main_v2 : FVec Ideal S256x1024 .f32) (ix2 p q) := by
  have hi := index2 t
  unfold iblk
  rw [View.read_apply]
  show V m c main_v2 _ = V m c main_v2 _
  congr 1
  funext a
  apply Fin.ext
  match a with
  | ⟨0, _⟩ => show win0_2.index t 0 * 256 + 1 * p.val = p.val; rw [hi.1]; omega
  | ⟨1, _⟩ => show win0_2.index t 1 * 1024 + 1 * q.val = q.val; rw [hi.2]; omega

/-- The hidden biases come whole to every point. -/
theorem block3 (t : Fin cfg0.N) (p : Fin 1) (q : Fin 1024) :
    (iblk m c 3 t : Vec Ideal S1x1024 .f32) (ix2 p q) = (V m c main_v7 : FVec Ideal S1x1024 .f32) (ix2 p q) := by
  have hi := index3 t
  unfold iblk
  rw [View.read_apply]
  show V m c main_v7 _ = V m c main_v7 _
  congr 1
  funext a
  apply Fin.ext
  match a with
  | ⟨0, _⟩ => show win0_3.index t 0 * 1 + 1 * p.val = p.val; rw [hi.1]; omega
  | ⟨1, _⟩ => show win0_3.index t 1 * 1024 + 1 * q.val = q.val; rw [hi.2]; omega

/-- The input weights come whole to every point. -/
theorem block4 (t : Fin cfg0.N) (p : Fin 64) (q : Fin 1024) :
    (iblk m c 4 t : Vec Ideal S64x1024 .f32) (ix2 p q) = (V m c main_v1 : FVec Ideal S64x1024 .f32) (ix2 p q) := by
  have hi := index4 t
  unfold iblk
  rw [View.read_apply]
  show V m c main_v1 _ = V m c main_v1 _
  congr 1
  funext a
  apply Fin.ext
  match a with
  | ⟨0, _⟩ => show win0_4.index t 0 * 64 + 1 * p.val = p.val; rw [hi.1]; omega
  | ⟨1, _⟩ => show win0_4.index t 1 * 1024 + 1 * q.val = q.val; rw [hi.2]; omega

/-- The means' output weights come whole to every point. -/
theorem block5 (t : Fin cfg0.N) (p : Fin 64) (q : Fin 1024) :
    (iblk m c 5 t : Vec Ideal S64x1024 .f32) (ix2 p q) = (V m c main_v4 : FVec Ideal S64x1024 .f32) (ix2 p q) := by
  have hi := index5 t
  unfold iblk
  rw [View.read_apply]
  show V m c main_v4 _ = V m c main_v4 _
  congr 1
  funext a
  apply Fin.ext
  match a with
  | ⟨0, _⟩ => show win0_5.index t 0 * 64 + 1 * p.val = p.val; rw [hi.1]; omega
  | ⟨1, _⟩ => show win0_5.index t 1 * 1024 + 1 * q.val = q.val; rw [hi.2]; omega

/-- The scales' output weights come whole to every point. -/
theorem block6 (t : Fin cfg0.N) (p : Fin 64) (q : Fin 1024) :
    (iblk m c 6 t : Vec Ideal S64x1024 .f32) (ix2 p q) = (V m c main_v6 : FVec Ideal S64x1024 .f32) (ix2 p q) := by
  have hi := index6 t
  unfold iblk
  rw [View.read_apply]
  show V m c main_v6 _ = V m c main_v6 _
  congr 1
  funext a
  apply Fin.ext
  match a with
  | ⟨0, _⟩ => show win0_6.index t 0 * 64 + 1 * p.val = p.val; rw [hi.1]; omega
  | ⟨1, _⟩ => show win0_6.index t 1 * 1024 + 1 * q.val = q.val; rw [hi.2]; omega

/-- The means' output biases come whole to every point. -/
theorem block7 (t : Fin cfg0.N) (p : Fin 1) (q : Fin 64) :
    (iblk m c 7 t : Vec Ideal S1x64 .f32) (ix2 p q) = (V m c main_v9 : FVec Ideal S1x64 .f32) (ix2 p q) := by
  have hi := index7 t
  unfold iblk
  rw [View.read_apply]
  show V m c main_v9 _ = V m c main_v9 _
  congr 1
  funext a
  apply Fin.ext
  match a with
  | ⟨0, _⟩ => show win0_7.index t 0 * 1 + 1 * p.val = p.val; rw [hi.1]; omega
  | ⟨1, _⟩ => show win0_7.index t 1 * 64 + 1 * q.val = q.val; rw [hi.2]; omega

/-- The scales' output biases come whole to every point. -/
theorem block8 (t : Fin cfg0.N) (p : Fin 1) (q : Fin 64) :
    (iblk m c 8 t : Vec Ideal S1x64 .f32) (ix2 p q) = (V m c main_v11 : FVec Ideal S1x64 .f32) (ix2 p q) := by
  have hi := index8 t
  unfold iblk
  rw [View.read_apply]
  show V m c main_v11 _ = V m c main_v11 _
  congr 1
  funext a
  apply Fin.ext
  match a with
  | ⟨0, _⟩ => show win0_8.index t 0 * 1 + 1 * p.val = p.val; rw [hi.1]; omega
  | ⟨1, _⟩ => show win0_8.index t 1 * 64 + 1 * q.val = q.val; rw [hi.2]; omega

/-- Row `p` of a point's block is the arguments' row for the point's sample and batch entry. -/
theorem tile_row (hm : scMask = (args m c).outMask) (t : Fin cfg0.N) (p : Fin 256) :
    (tileOf (iblk m c 0 t) (iblk m c 1 t) (iblk m c 2 t) (iblk m c 3 t) (iblk m c 4 t) (iblk m c 5 t) (iblk m c 6 t) (iblk m c 7 t) (iblk m c 8 t)).row p
      = (args m c).row (sampleAt t) (entryAt t p) := by
  unfold Tile.row tileOf
  unfold Args.row
  rw [Row.mk.injEq]
  refine ⟨funext fun h => ?_, funext fun h => funext fun d => ?_, funext fun i => funext fun h => ?_,
    funext fun i => funext fun h => ?_, funext fun i => ?_, funext fun i => ?_, funext fun i => ?_⟩
  · show k0_pay1 (F := Ideal) _ _ _ (ix2 p h) = _
    rw [pay1_apply, block3, entry_b1]
    refine congrArg (· + _) (Finset.sum_congr rfl fun q _ => ?_)
    rw [block0, block2, entry_wc]
  · exact (block4 m c t d h).trans (entry_win m c d h)
  · exact (block5 m c t i h).trans (entry_wmu m c i h)
  · exact (block6 m c t i h).trans (entry_wsc m c i h hm)
  · exact (block7 m c t 0 i).trans (entry_bmu m c i)
  · exact (block8 m c t 0 i).trans (entry_bsc m c i)
  · exact block1 m c t p i

/-- The grid point whose block holds a batch entry of a sample. -/
theorem point_lt (s b : ℕ) (hs : s < 4) (hb : b < 1024) : s * 4 + b / 256 < cfg0.N := by
  have h : cfg0.N = 16 := N_0
  omega

theorem index9 : ∀ t : Fin cfg0.N, win0_9.index t 0 = t.val / 4 ∧ win0_9.index t 1 = t.val % 4 ∧ win0_9.index t 2 = 0 :=
  (by decide +kernel : ∀ t : Fin grid0.N, win0_9.index t 0 = t.val / 4 ∧ win0_9.index t 1 = t.val % 4 ∧ win0_9.index t 2 = 0)

theorem flushed9_eq (hm : scMask = (args m c).outMask) (t : Fin cfg0.N) (hf : (cfg0.win 9).flush t = true) :
    (dats m 0 c).flushed 9 t = ((cfg0.win 9).blk t).view.read (Elt Ideal) ((args m c).z : FVec Ideal S4x1024x64 .f32) := by
  have hi := index9 t
  rw [Cert.KernelIdeal.Value.flushed9_A]
  have key : ∀ (p : Fin 256) (d : Fin 64), ((args m c).row (sampleAt t) (entryAt t p)).z d
      = ((cfg0.win 9).blk t).view.read (Elt Ideal) ((args m c).z : FVec Ideal S4x1024x64 .f32) (ix3 0 p d) := by
    intro p d
    rw [View.read_apply]
    show (args m c).z (ix3 (sampleAt t) (entryAt t p) d) = (args m c).z _
    congr 1
    funext a
    apply Fin.ext
    match a with
    | ⟨0, _⟩ => show t.val / 4 = win0_9.index t 0 * 1 + 1 * 0; rw [hi.1]; omega
    | ⟨1, _⟩ => show t.val % 4 * 256 + p.val = win0_9.index t 1 * 256 + 1 * p.val; rw [hi.2.1]; omega
    | ⟨2, _⟩ => show d.val = win0_9.index t 2 * 64 + 1 * d.val; rw [hi.2.2]; omega
  funext j
  have hj : j = ix3 0 (j 1) (j 2) := by
    rw [eq_ix3 j]
    congr 1
    exact Subsingleton.elim (α := Fin 1) _ _
  rw [hj]
  refine Eq.trans (out9_apply _ _ _ _ _ _ _ _ _ _ _ _ _ _ _ _ _ _ _ _ _ _ _ _ _ _ _ _ _ _ _ _ _ _ _ _ _ (j 1) (j 2)) ?_
  exact (congrArg (fun r : Row => r.z (j 2)) (tile_row m c hm t (j 1))).trans (key (j 1) (j 2))

theorem covered9 (i : S4x1024x64.Idx) (t : Fin cfg0.N) (ht : t.val = (i 0).val * 4 + (i 1).val / 256) :
    i ∈ ((View.whole main_v12_0).slice (win0_9.rect t)).set := by
  have h0 : (i 0 : ℕ) < 4 := (i 0).isLt
  have h1 : (i 1 : ℕ) < 1024 := (i 1).isLt
  have h2 : (i 2 : ℕ) < 64 := (i 2).isLt
  have hi := index9 t
  rw [View.set_slice_whole, Rect.mem_set_unit]
  intro a
  match a with
  | ⟨0, _⟩ =>
    show win0_9.index t 0 * 1 ≤ (i 0 : ℕ) ∧ (i 0 : ℕ) < win0_9.index t 0 * 1 + 1
    rw [hi.1]; omega
  | ⟨1, _⟩ =>
    show win0_9.index t 1 * 256 ≤ (i 1 : ℕ) ∧ (i 1 : ℕ) < win0_9.index t 1 * 256 + 256
    rw [hi.2.1]; omega
  | ⟨2, _⟩ =>
    show win0_9.index t 2 * 64 ≤ (i 2 : ℕ) ∧ (i 2 : ℕ) < win0_9.index t 2 * 64 + 64
    rw [hi.2.2]; omega

/-- The array of the samples. -/
theorem array9 (hm : scMask = (args m c).outMask) :
    (dats m 0 c).arrAt 9 cfg0.N = ((args m c).z : FVec Ideal S4x1024x64 .f32) :=
  (dats m 0 c).arrAt_eq_of_cover 9 ((args m c).z : FVec Ideal S4x1024x64 .f32) (flushed9_eq m c hm) fun i =>
    ⟨⟨(i 0).val * 4 + (i 1).val / 256, point_lt _ _ (i 0).isLt (i 1).isLt⟩, flush0_9 _, covered9 i _ rfl⟩

theorem index10 : ∀ t : Fin cfg0.N, win0_10.index t 0 = t.val / 4 ∧ win0_10.index t 1 = t.val % 4 ∧ win0_10.index t 2 = 0 :=
  (by decide +kernel : ∀ t : Fin grid0.N, win0_10.index t 0 = t.val / 4 ∧ win0_10.index t 1 = t.val % 4 ∧ win0_10.index t 2 = 0)

theorem flushed10_eq (hm : scMask = (args m c).outMask) (t : Fin cfg0.N) (hf : (cfg0.win 10).flush t = true) :
    (dats m 0 c).flushed 10 t = ((cfg0.win 10).blk t).view.read (Elt Ideal) ((args m c).mu : FVec Ideal S4x1024x64 .f32) := by
  have hi := index10 t
  rw [Cert.KernelIdeal.Value.flushed10_A]
  have key : ∀ (p : Fin 256) (d : Fin 64), ((args m c).row (sampleAt t) (entryAt t p)).mu d
      = ((cfg0.win 10).blk t).view.read (Elt Ideal) ((args m c).mu : FVec Ideal S4x1024x64 .f32) (ix3 0 p d) := by
    intro p d
    rw [View.read_apply]
    show (args m c).mu (ix3 (sampleAt t) (entryAt t p) d) = (args m c).mu _
    congr 1
    funext a
    apply Fin.ext
    match a with
    | ⟨0, _⟩ => show t.val / 4 = win0_10.index t 0 * 1 + 1 * 0; rw [hi.1]; omega
    | ⟨1, _⟩ => show t.val % 4 * 256 + p.val = win0_10.index t 1 * 256 + 1 * p.val; rw [hi.2.1]; omega
    | ⟨2, _⟩ => show d.val = win0_10.index t 2 * 64 + 1 * d.val; rw [hi.2.2]; omega
  funext j
  have hj : j = ix3 0 (j 1) (j 2) := by
    rw [eq_ix3 j]
    congr 1
    exact Subsingleton.elim (α := Fin 1) _ _
  rw [hj]
  refine Eq.trans (out10_apply _ _ _ _ _ _ _ _ _ _ _ _ _ _ _ _ _ _ _ _ _ _ _ _ _ _ _ _ _ _ _ _ _ _ _ _ _ (j 1) (j 2)) ?_
  exact (congrArg (fun r : Row => r.mu (j 2)) (tile_row m c hm t (j 1))).trans (key (j 1) (j 2))

theorem covered10 (i : S4x1024x64.Idx) (t : Fin cfg0.N) (ht : t.val = (i 0).val * 4 + (i 1).val / 256) :
    i ∈ ((View.whole main_v12_1).slice (win0_10.rect t)).set := by
  have h0 : (i 0 : ℕ) < 4 := (i 0).isLt
  have h1 : (i 1 : ℕ) < 1024 := (i 1).isLt
  have h2 : (i 2 : ℕ) < 64 := (i 2).isLt
  have hi := index10 t
  rw [View.set_slice_whole, Rect.mem_set_unit]
  intro a
  match a with
  | ⟨0, _⟩ =>
    show win0_10.index t 0 * 1 ≤ (i 0 : ℕ) ∧ (i 0 : ℕ) < win0_10.index t 0 * 1 + 1
    rw [hi.1]; omega
  | ⟨1, _⟩ =>
    show win0_10.index t 1 * 256 ≤ (i 1 : ℕ) ∧ (i 1 : ℕ) < win0_10.index t 1 * 256 + 256
    rw [hi.2.1]; omega
  | ⟨2, _⟩ =>
    show win0_10.index t 2 * 64 ≤ (i 2 : ℕ) ∧ (i 2 : ℕ) < win0_10.index t 2 * 64 + 64
    rw [hi.2.2]; omega

/-- The array of the means. -/
theorem array10 (hm : scMask = (args m c).outMask) :
    (dats m 0 c).arrAt 10 cfg0.N = ((args m c).mu : FVec Ideal S4x1024x64 .f32) :=
  (dats m 0 c).arrAt_eq_of_cover 10 ((args m c).mu : FVec Ideal S4x1024x64 .f32) (flushed10_eq m c hm) fun i =>
    ⟨⟨(i 0).val * 4 + (i 1).val / 256, point_lt _ _ (i 0).isLt (i 1).isLt⟩, flush0_10 _, covered10 i _ rfl⟩

theorem index11 : ∀ t : Fin cfg0.N, win0_11.index t 0 = t.val / 4 ∧ win0_11.index t 1 = t.val % 4 ∧ win0_11.index t 2 = 0 :=
  (by decide +kernel : ∀ t : Fin grid0.N, win0_11.index t 0 = t.val / 4 ∧ win0_11.index t 1 = t.val % 4 ∧ win0_11.index t 2 = 0)

theorem flushed11_eq (hm : scMask = (args m c).outMask) (t : Fin cfg0.N) (hf : (cfg0.win 11).flush t = true) :
    (dats m 0 c).flushed 11 t = ((cfg0.win 11).blk t).view.read (Elt Ideal) ((args m c).sc : FVec Ideal S4x1024x64 .f32) := by
  have hi := index11 t
  rw [Cert.KernelIdeal.Value.flushed11_A]
  have key : ∀ (p : Fin 256) (d : Fin 64), ((args m c).row (sampleAt t) (entryAt t p)).sc d
      = ((cfg0.win 11).blk t).view.read (Elt Ideal) ((args m c).sc : FVec Ideal S4x1024x64 .f32) (ix3 0 p d) := by
    intro p d
    rw [View.read_apply]
    show (args m c).sc (ix3 (sampleAt t) (entryAt t p) d) = (args m c).sc _
    congr 1
    funext a
    apply Fin.ext
    match a with
    | ⟨0, _⟩ => show t.val / 4 = win0_11.index t 0 * 1 + 1 * 0; rw [hi.1]; omega
    | ⟨1, _⟩ => show t.val % 4 * 256 + p.val = win0_11.index t 1 * 256 + 1 * p.val; rw [hi.2.1]; omega
    | ⟨2, _⟩ => show d.val = win0_11.index t 2 * 64 + 1 * d.val; rw [hi.2.2]; omega
  funext j
  have hj : j = ix3 0 (j 1) (j 2) := by
    rw [eq_ix3 j]
    congr 1
    exact Subsingleton.elim (α := Fin 1) _ _
  rw [hj]
  refine Eq.trans (out11_apply _ _ _ _ _ _ _ _ _ _ _ _ _ _ _ _ _ _ _ _ _ _ _ _ _ _ _ _ _ _ _ _ _ _ _ _ _ (j 1) (j 2)) ?_
  exact (congrArg (fun r : Row => r.sc (j 2)) (tile_row m c hm t (j 1))).trans (key (j 1) (j 2))

theorem covered11 (i : S4x1024x64.Idx) (t : Fin cfg0.N) (ht : t.val = (i 0).val * 4 + (i 1).val / 256) :
    i ∈ ((View.whole main_v12_2).slice (win0_11.rect t)).set := by
  have h0 : (i 0 : ℕ) < 4 := (i 0).isLt
  have h1 : (i 1 : ℕ) < 1024 := (i 1).isLt
  have h2 : (i 2 : ℕ) < 64 := (i 2).isLt
  have hi := index11 t
  rw [View.set_slice_whole, Rect.mem_set_unit]
  intro a
  match a with
  | ⟨0, _⟩ =>
    show win0_11.index t 0 * 1 ≤ (i 0 : ℕ) ∧ (i 0 : ℕ) < win0_11.index t 0 * 1 + 1
    rw [hi.1]; omega
  | ⟨1, _⟩ =>
    show win0_11.index t 1 * 256 ≤ (i 1 : ℕ) ∧ (i 1 : ℕ) < win0_11.index t 1 * 256 + 256
    rw [hi.2.1]; omega
  | ⟨2, _⟩ =>
    show win0_11.index t 2 * 64 ≤ (i 2 : ℕ) ∧ (i 2 : ℕ) < win0_11.index t 2 * 64 + 64
    rw [hi.2.2]; omega

/-- The array of the scales. -/
theorem array11 (hm : scMask = (args m c).outMask) :
    (dats m 0 c).arrAt 11 cfg0.N = ((args m c).sc : FVec Ideal S4x1024x64 .f32) :=
  (dats m 0 c).arrAt_eq_of_cover 11 ((args m c).sc : FVec Ideal S4x1024x64 .f32) (flushed11_eq m c hm) fun i =>
    ⟨⟨(i 0).val * 4 + (i 1).val / 256, point_lt _ _ (i 0).isLt (i 1).isLt⟩, flush0_11 _, covered11 i _ rfl⟩

end Sampler.Ker
-- ==== Proof.Digits.lean ====
module

public import Mathlib.Tactic.IntervalCases

/-!
Tables of 65536 words given by a formula in the index, and read by the index's digits: the first of four, then
two of 128.
-/

@[expose] public section

namespace Sampler

/-- The f32 word of one, or of zero. -/
abbrev unitWord (p : Bool) : BitVec 32 := match p with
  | true => 0x3F800000#32
  | false => 0x00000000#32

/-- The value at one of 128 digits. -/
abbrev digit (f : Nat → BitVec 32) (x : Nat) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#32

/-- The value at one of four digits. -/
abbrev digit4 (f : Nat → BitVec 32) (x : Nat) : BitVec 32 := match x with
  | 0 => f 0 | 1 => f 1 | 2 => f 2 | 3 => f 3
  | _ => 0#32

/-- A digit below 128 picks its own value. -/
theorem digit_eq (f : Nat → BitVec 32) (x : Nat) (hx : x < 128) : digit f x = f x := by
  interval_cases x <;> rfl

/-- A digit below four picks its own value. -/
theorem digit4_eq (f : Nat → BitVec 32) (x : Nat) (hx : x < 4) : digit4 f x = f x := by
  interval_cases x <;> rfl

/-- Quarter `b` of the table of a formula's words, read by digits. -/
def quarter (w : Nat → BitVec 32) (b i : Nat) : BitVec 32 :=
  digit (fun a => digit (fun r => w (16384 * b + 128 * a + r)) (i % 128)) (i / 128 % 128)

/-- Read by its digits, an index gives the formula at that index. -/
theorem quarter_eq (w : Nat → BitVec 32) (i : Nat) (hi : i < 65536) :
    digit4 (fun b => quarter w b i) (i / 16384) = w i := by
  rw [digit4_eq _ _ (by omega)]
  unfold quarter
  rw [digit_eq _ _ (by omega), digit_eq _ _ (by omega)]
  congr 1
  omega

/-- Entry `(h, d)` of the input mask: one where the degree of input `d` is at most that of hidden unit `h`. -/
abbrev inWord (n : Nat) : BitVec 32 := unitWord (Nat.ble (n % 64) (n / 64 % 63))

/-- Entry `(d, h)` of the output mask: one where the degree of output `d` is above that of hidden unit `h`. -/
abbrev outWord (n : Nat) : BitVec 32 := unitWord (Nat.ble (n % 1024 % 63 + 1) (n / 1024))

end Sampler
-- ==== Proof.InMask.lean ====
module

public import proofs.«01_k».proof.KernelIdeal
public import proofs.«01_k».proof.Proof.Digits

/-!
The kernel's table for the input mask, by formula.
-/

@[expose] public section

set_option maxRecDepth 65536

namespace Sampler

open Cert.KernelIdeal

set_option maxHeartbeats 1000000 in
/-- The first quarter of the table. -/
theorem in_0 : lit0t1_0 = quarter inWord 0 := rfl

set_option maxHeartbeats 1000000 in
/-- The second quarter of the table. -/
theorem in_1 : lit0t1_1 = quarter inWord 1 := rfl

set_option maxHeartbeats 1000000 in
/-- The third quarter of the table. -/
theorem in_2 : lit0t1_2 = quarter inWord 2 := rfl

set_option maxHeartbeats 1000000 in
/-- The last quarter of the table. -/
theorem in_3 : lit0t1_3 = quarter inWord 3 := rfl

/-- The whole table, from its quarters. -/
theorem in_table : lit0t = fun i => digit4 (fun b => quarter inWord b i) (i / 16384) := by
  unfold lit0t
  rw [in_0, in_1, in_2, in_3]
  rfl

/-- The kernel's input mask. -/
theorem in_mask (n : Fin 65536) : lit0 n = inWord n.val :=
  (congrFun in_table n.val).trans (quarter_eq _ _ n.isLt)

end Sampler
-- ==== Proof.MuMask.lean ====
module

public import proofs.«01_k».proof.KernelIdeal
public import proofs.«01_k».proof.Proof.Digits

/-!
The kernel's table for the output mask of the means, by formula.
-/

@[expose] public section

set_option maxRecDepth 65536

namespace Sampler

open Cert.KernelIdeal

set_option maxHeartbeats 1000000 in
/-- The first quarter of the table. -/
theorem mu_0 : lit1t1_0 = quarter outWord 0 := rfl

set_option maxHeartbeats 1000000 in
/-- The second quarter of the table. -/
theorem mu_1 : lit1t1_1 = quarter outWord 1 := rfl

set_option maxHeartbeats 1000000 in
/-- The third quarter of the table. -/
theorem mu_2 : lit1t1_2 = quarter outWord 2 := rfl

set_option maxHeartbeats 1000000 in
/-- The last quarter of the table. -/
theorem mu_3 : lit1t1_3 = quarter outWord 3 := rfl

/-- The whole table, from its quarters. -/
theorem mu_table : lit1t = fun i => digit4 (fun b => quarter outWord b i) (i / 16384) := by
  unfold lit1t
  rw [mu_0, mu_1, mu_2, mu_3]
  rfl

/-- The kernel's output mask of the means. -/
theorem mu_mask (n : Fin 65536) : lit1 n = outWord n.val :=
  (congrFun mu_table n.val).trans (quarter_eq _ _ n.isLt)

end Sampler
-- ==== Proof.ScMask.lean ====
module

public import proofs.«01_k».proof.KernelIdeal
public import proofs.«01_k».proof.Proof.Digits

/-!
The kernel's table for the output mask of the scales, by formula.
-/

@[expose] public section

set_option maxRecDepth 65536

namespace Sampler

open Cert.KernelIdeal

set_option maxHeartbeats 1000000 in
/-- The first quarter of the table. -/
theorem sc_0 : lit2t1_0 = quarter outWord 0 := rfl

set_option maxHeartbeats 1000000 in
/-- The second quarter of the table. -/
theorem sc_1 : lit2t1_1 = quarter outWord 1 := rfl

set_option maxHeartbeats 1000000 in
/-- The third quarter of the table. -/
theorem sc_2 : lit2t1_2 = quarter outWord 2 := rfl

set_option maxHeartbeats 1000000 in
/-- The last quarter of the table. -/
theorem sc_3 : lit2t1_3 = quarter outWord 3 := rfl

/-- The whole table, from its quarters. -/
theorem sc_table : lit2t = fun i => digit4 (fun b => quarter outWord b i) (i / 16384) := by
  unfold lit2t
  rw [sc_0, sc_1, sc_2, sc_3]
  rfl

/-- The kernel's output mask of the scales. -/
theorem sc_mask (n : Fin 65536) : lit2 n = outWord n.val :=
  (congrFun sc_table n.val).trans (quarter_eq _ _ n.isLt)

end Sampler
-- ==== Proof.RefStep.lean ====
module

public import proofs.«01_k».proof.Proof.Softplus
public import proofs.«01_k».proof.Proof.Gen.ReferenceIdeal.Run
public import Idealize.ShloMosaic.Lib.Pointwise
public import Idealize.ShloMosaic.Lib.DynamicIndex

/-!
One trip of the reference's loop, read element by element: from contents in which the first `k` samples of
every row are drawn, the trip draws sample `k` of every row and records its mean and scale.
-/

@[expose] public section

set_option maxRecDepth 16384

noncomputable section

namespace Sampler.Ref

open Cert.ReferenceIdeal Cert.ReferenceIdeal.Gen Cert.ReferenceIdeal.Value
open Idealize.ShloMosaic Idealize.ShloMosaic.TcCoe Idealize.SL.Sem
open scoped BigOperators

/-- Buffer contents over the extended reals. -/
abbrev Vals := Valuation τ sig (Elt Ideal)

/-- Row `(s, b)`'s place among all rows laid end to end. -/
abbrev flat (s : Fin 4) (b : Fin 1024) : Fin 4096 := ⟨s.val * 1024 + b.val, by omega⟩

/-- The output's place of entry `i`'s mean, and of its scale. -/
abbrev muAt (i : Fin 64) : Fin 128 := ⟨i.val, by omega⟩
abbrev scAt (i : Fin 64) : Fin 128 := ⟨64 + i.val, by omega⟩

/-- Row `(s, b)` of five arrays: the starting activations, the masked input weights, the masked output weights,
    the output biases and the noise. -/
def rowOf (ch : FVec Ideal S4096x1024 .f32) (w : FVec Ideal S1024x64 .f32) (o : FVec Ideal S128x1024 .f32)
    (bo : FVec Ideal S128 .f32) (e : FVec Ideal S4x1024x64 .f32) (s : Fin 4) (b : Fin 1024) : Row where
  start h := ch (ix2 (flat s b) h)
  win h d := w (ix2 h d)
  wmu i h := o (ix2 (muAt i) h)
  wsc i h := o (ix2 (scAt i) h)
  bmu i := bo (ix1 (muAt i))
  bsc i := bo (ix1 (scAt i))
  noise i := e (ix3 s b i)

/-- Row `(s, b)` of the loop's constants. -/
def row (V : Vals) (s : Fin 4) (b : Fin 1024) : Row :=
  rowOf (V (Proc.devRef .tc main_v26_2)) (V (Proc.devRef .tc main_v26_1)) (V (Proc.devRef .tc main_v26_3))
    (V (Proc.devRef .tc main_v26_4)) (V (Proc.devRef .tc main_v26_5)) s b

/-- The contents before trip `k`: the counter holds `k`, the first `k` samples are in place, and so are the
    first `k` means and scales. -/
structure Before (V : Vals) (k : ℕ) : Prop where
  iota : (V (Proc.devRef .tc main_v26_0) : IVec S64 32) = iotaInDim S64 32 0
  count : (V (Proc.devRef .tc main_v26_6) : IVec S_ 32) = constantI S_ 32 (BitVec.ofNat 32 k)
  z : ∀ s b d, (V (Proc.devRef .tc main_v26_7) : FVec Ideal S4x1024x64 .f32) (ix3 s b d)
    = Row.upTo k (row V s b).z d
  mu : ∀ s b d, (V (Proc.devRef .tc main_v26_8) : FVec Ideal S64x4x1024 .f32) (ix3 d s b)
    = Row.upTo k (row V s b).mu d
  sc : ∀ s b d, (V (Proc.devRef .tc main_v26_9) : FVec Ideal S64x4x1024 .f32) (ix3 d s b)
    = Row.upTo k (row V s b).sc d

/-- The step's number, read out of the iota at the counter. -/
theorem index_eq (V : Vals) (k : Fin 64) (h : Before V k.val) :
    res_main_while0b_v29 V = constantI S_ 32 (BitVec.ofNat 32 k.val) := by
  have hs : S64.Slices ![k.val] S1 := ⟨rfl, fun a => by fin_cases a; show k.val + 1 ≤ 64; omega⟩
  unfold res_main_while0b_v29
  rw [h.iota, h.count,
    Host.dynamicSlice_eq_extractStridedSlice S1 _ _ ![k.val] _ hs (fun a => by
      fin_cases a; exact toInt_ofNat_of_lt (by omega))]
  funext j
  pointwise

/-- The start of every dynamic slice of a trip: entry `k` of the last axis. -/
theorem starts_eq (k : Fin 64) (a : Fin 3) :
    ((((![constantI S_ 32 0#32, constantI S_ 32 0#32,
        select (cmpi .slt (constantI S_ 32 (BitVec.ofNat 32 k.val)) (constantI S_ 32 0#32))
          (addi (constantI S_ 32 (BitVec.ofNat 32 k.val)) (constantI S_ 32 64#32))
          (constantI S_ 32 (BitVec.ofNat 32 k.val))] : Fin 3 → IVec S_ 32)) a (Shape.Idx.first h_S_)).toInt)
      = ((![0, 0, k.val] : Fin 3 → ℕ) a : Int) := by
  fin_cases a
  · rfl
  · rfl
  · exact toInt_wrap_ofNat k.val (by omega)

/-- A slice of one entry of the last axis, read at a row. -/
theorem slice_apply (x : FVec Ideal S4x1024x64 .f32) (k : Fin 64) (start : Fin 3 → Int)
    (hstart : ∀ a, start a = ((![0, 0, k.val] : Fin 3 → ℕ) a : Int)) (s : Fin 4) (b : Fin 1024) :
    shapeCast S4x1024 (Host.dynamicSlice S4x1024x1 x start sliceFits_S4x1024x64_S4x1024x1)
      shapeCasts_S4x1024x1_S4x1024 (ix2 s b) = x (ix3 s b k) := by
  have hs : S4x1024x64.Slices ![0, 0, k.val] S4x1024x1 := ⟨rfl, fun a => by
    fin_cases a
    · show 0 + 4 ≤ 4; omega
    · show 0 + 1024 ≤ 1024; omega
    · show k.val + 1 ≤ 64; omega⟩
  rw [Host.dynamicSlice_eq_extractStridedSlice S4x1024x1 x start ![0, 0, k.val] _ hs hstart]
  pointwise

/-- The network's output at trip `k`: entry `o` of row `(s, b)`. -/
theorem out_eq (V : Vals) (k : Fin 64) (h : Before V k.val) (s : Fin 4) (b : Fin 1024) (o : Fin 128) :
    res_main_while0b_v40 V (ix3 s b o)
      = (∑ i : Fin 1024, max ((row V s b).act k.val i) 0
          * (V (Proc.devRef .tc main_v26_3) : FVec Ideal S128x1024 .f32) (ix2 o i))
        + (V (Proc.devRef .tc main_v26_4) : FVec Ideal S128 .f32) (ix1 o) := by
  unfold res_main_while0b_v40
  pointwise
  refine congrArg (· + _) (Finset.sum_congr rfl fun i _ => ?_)
  rw [Row.act_eq_sum (row V s b) i k.val (by omega)]
  simp only [h.z]
  rfl

/-- The mean drawn at trip `k`. -/
theorem mu_eq (V : Vals) (k : Fin 64) (h : Before V k.val) (s : Fin 4) (b : Fin 1024) :
    res_main_while0b_v43 V (ix2 s b) = (row V s b).mu k := by
  unfold res_main_while0b_v43
  rw [index_eq V k h, slice_apply _ k _ (starts_eq k)]
  pointwise
  rw [out_eq V k h]
  rfl

/-- What the scale drawn at trip `k` is the softplus of. -/
theorem pre_eq (V : Vals) (k : Fin 64) (h : Before V k.val) (s : Fin 4) (b : Fin 1024) :
    res_main_while0b_v44 V (ix2 s b)
      = (∑ i : Fin 1024, max ((row V s b).act k.val i) 0 * (row V s b).wsc k i) + (row V s b).bsc k := by
  unfold res_main_while0b_v44
  rw [index_eq V k h, slice_apply _ k _ (starts_eq k)]
  pointwise
  rw [out_eq V k h]
  rfl

/-- The scale drawn at trip `k`. -/
theorem sc_eq (V : Vals) (k : Fin 64) (h : Before V k.val) (s : Fin 4) (b : Fin 1024) :
    res_main_while0b_v45 V (ix2 s b) = (row V s b).sc k := by
  unfold res_main_while0b_v45
  pointwise [res_main_while0b_call4_v3, res_main_while0b_call4_cst]
  rw [pre_eq V k h]
  exact softplus_neg _ _

/-- One entry of the last axis put in, read at an entry. -/
theorem update_last_apply (x : FVec Ideal S4x1024x64 .f32) (v : FVec Ideal S4x1024x1 .f32) (k : Fin 64)
    (start : Fin 3 → Int) (hstart : ∀ a, start a = ((![0, 0, k.val] : Fin 3 → ℕ) a : Int))
    (s : Fin 4) (b : Fin 1024) (d : Fin 64) :
    Host.dynamicUpdateSlice x v start updateFits_S4x1024x64_S4x1024x1 (ix3 s b d)
      = if d.val = k.val then v (ix3 s b 0) else x (ix3 s b d) := by
  have hs : S4x1024x64.Slices ![0, 0, k.val] S4x1024x1 := ⟨rfl, fun a => by
    fin_cases a
    · show 0 + 4 ≤ 4; omega
    · show 0 + 1024 ≤ 1024; omega
    · show k.val + 1 ≤ 64; omega⟩
  rw [Host.dynamicUpdateSlice_eq_updateSlice x v start _ ![0, 0, k.val] (fun a => by
    have := hs.2 a; rw [hstart a]; omega) hs]
  pointwise
  by_cases hd : d.val = k.val
  · rw [dif_pos (by omega), if_pos hd]
    congr 2
    exact Fin.ext (by show d.val - k.val = 0; omega)
  · rw [dif_neg (by omega), if_neg hd]

/-- One entry of the first axis put in, read at an entry. -/
theorem update_first_apply (x : FVec Ideal S64x4x1024 .f32) (v : FVec Ideal S1x4x1024 .f32) (k : Fin 64)
    (start : Fin 3 → Int) (hstart : ∀ a, start a = ((![k.val, 0, 0] : Fin 3 → ℕ) a : Int))
    (s : Fin 4) (b : Fin 1024) (d : Fin 64) :
    Host.dynamicUpdateSlice x v start updateFits_S64x4x1024_S1x4x1024 (ix3 d s b)
      = if d.val = k.val then v (ix3 0 s b) else x (ix3 d s b) := by
  have hs : S64x4x1024.Slices ![k.val, 0, 0] S1x4x1024 := ⟨rfl, fun a => by
    fin_cases a
    · show k.val + 1 ≤ 64; omega
    · show 0 + 4 ≤ 4; omega
    · show 0 + 1024 ≤ 1024; omega⟩
  rw [Host.dynamicUpdateSlice_eq_updateSlice x v start _ ![k.val, 0, 0] (fun a => by
    have := hs.2 a; rw [hstart a]; omega) hs]
  pointwise
  by_cases hd : d.val = k.val
  · rw [dif_pos (by omega), if_pos hd]
    congr 2
    exact Fin.ext (by show d.val - k.val = 0; omega)
  · rw [dif_neg (by omega), if_neg hd]

/-- A trip leaves the loop's constants as they are, so the rows are the same. -/
theorem row_step (V : Vals) (s : Fin 4) (b : Fin 1024) : row (STEP V) s b = row V s b := by
  unfold row
  rw [STEP_main_v26_1, STEP_main_v26_2, STEP_main_v26_3, STEP_main_v26_4, STEP_main_v26_5]

/-- Where a trip's mean and scale are put: entry `k` of the first axis. -/
theorem starts_first_eq (k : Fin 64) (a : Fin 3) :
    ((((![constantI S_ 32 (BitVec.ofNat 32 k.val), constantI S_ 32 0#32, constantI S_ 32 0#32] :
        Fin 3 → IVec S_ 32)) a (Shape.Idx.first h_S_)).toInt) = ((![k.val, 0, 0] : Fin 3 → ℕ) a : Int) := by
  fin_cases a
  · exact toInt_ofNat_of_lt (by omega)
  · rfl
  · rfl

/-- What a trip puts into the samples, read at a row. -/
theorem draw_apply (m c n : FVec Ideal S4x1024 .f32) (s : Fin 4) (b : Fin 1024) :
    broadcastInDim S4x1024x1 ![0, 1] bcast_S4x1024_S4x1024x1_0_1 (addf m (mulf c n)) (ix3 s b 0)
      = m (ix2 s b) + c (ix2 s b) * n (ix2 s b) := by
  pointwise

/-- One trip takes the contents before trip `k` to the contents before trip `k + 1`. -/
theorem before_step (V : Vals) (k : Fin 64) (h : Before V k.val) : Before (STEP V) (k.val + 1) where
  iota := by rw [STEP_main_v26_0]; exact h.iota
  count := by
    rw [STEP_main_v26_6]
    unfold step_main_v26_6
    rw [h.count]
    funext j
    show BitVec.ofNat 32 k.val + 1#32 = BitVec.ofNat 32 (k.val + 1)
    rw [BitVec.ofNat_add]
  z := fun s b d => by
    rw [STEP_main_v26_7, row_step, Row.upTo_succ_ite, ← h.z s b d]
    unfold step_main_v26_7
    rw [index_eq V k h]
    refine (update_last_apply _ _ k _ (starts_eq k) s b d).trans ?_
    congr 1
    refine (draw_apply _ _ _ s b).trans ?_
    exact congrArg₂ (· + ·) (mu_eq V k h s b) (congrArg₂ (· * ·) (sc_eq V k h s b)
      (slice_apply (V (Proc.devRef .tc main_v26_5)) k _ (starts_eq k) s b))
  mu := fun s b d => by
    rw [STEP_main_v26_8, row_step, Row.upTo_succ_ite, ← h.mu s b d]
    unfold step_main_v26_8
    rw [h.count]
    refine (update_first_apply _ _ k _ (starts_first_eq k) s b d).trans ?_
    congr 1
    pointwise
    rw [mu_eq V k h]
  sc := fun s b d => by
    rw [STEP_main_v26_9, row_step, Row.upTo_succ_ite, ← h.sc s b d]
    unfold step_main_v26_9
    rw [h.count]
    refine (update_first_apply _ _ k _ (starts_first_eq k) s b d).trans ?_
    congr 1
    pointwise
    rw [sc_eq V k h]

end Sampler.Ref
-- ==== Proof.RefMasks.lean ====
module

public import proofs.«01_k».proof.Proof.RefStep
public import proofs.«01_k».proof.Proof.Args
public import proofs.«01_k».proof.Proof.Digits

/-!
The masks the reference computes from the degrees.
-/

@[expose] public section

set_option maxRecDepth 16384

noncomputable section

namespace Sampler.Ref

open Cert.ReferenceIdeal Cert.ReferenceIdeal.Gen Idealize.ShloMosaic Idealize.ShloMosaic.TcCoe
open Idealize.ShloMosaic.StableHlo

/-- The degrees of the inputs. -/
def inDeg : IVec S64 32 := fun i => lit0 (S64.rowMajor i)

/-- The degrees of the hidden units. -/
def hidDeg : IVec S1024 32 := fun i => lit1 (S1024.rowMajor i)

/-- The mask of the input weights: a hidden unit reads the inputs of degree at most its own. -/
def inTable : FVec Ideal S1024x64 .f32 :=
  uitofp (F := Ideal) .f32 (cmpi .sge
    (broadcastInDim S1024x64 ![0, 1] bcast_S1024x1_S1024x64_0_1 (broadcastInDim S1024x1 ![0] bcast_S1024_S1024x1_0 hidDeg))
    (broadcastInDim S1024x64 ![0, 1] bcast_S1x64_S1024x64_0_1 (broadcastInDim S1x64 ![1] bcast_S64_S1x64_1 inDeg)))

/-- The mask of the output weights: an output reads the hidden units of degree below its own. -/
def outTable : FVec Ideal S128x1024 .f32 :=
  uitofp (F := Ideal) .f32 (cmpi .sgt
    (broadcastInDim S128x1024 ![0, 1] bcast_S128x1_S128x1024_0_1 (broadcastInDim S128x1 ![0] bcast_S128_S128x1_0
      (concatenate S128 0 [⟨S64, inDeg⟩, ⟨S64, inDeg⟩] concatenates_S64_S64_S128_d0)))
    (broadcastInDim S128x1024 ![0, 1] bcast_S1x1024_S128x1024_0_1 (broadcastInDim S1x1024 ![1] bcast_S1024_S1x1024_1 hidDeg)))

/-- The mask of either half of the output weights. -/
def halfTable : FVec Ideal S64x1024 .f32 :=
  fun j => FloatOps.uitofp .f32 (IntOp.cmpi .sgt (inDeg (ix1 (j 0))) (hidDeg (ix1 (j 1))))

/-- An entry of the input mask, as a comparison of two degrees. -/
theorem inTable_apply (h : Fin 1024) (d : Fin 64) :
    inTable (ix2 h d) = FloatOps.uitofp (F := Ideal) .f32 (IntOp.cmpi .sge (hidDeg (ix1 h)) (inDeg (ix1 d))) := by
  unfold inTable
  pointwise

/-- The rows of the means in the output mask. -/
theorem outTable_mu (i : Fin 64) (h : Fin 1024) : outTable (ix2 (muAt i) h) = halfTable (ix2 i h) := by
  unfold outTable halfTable
  pointwise

/-- The rows of the scales in the output mask. -/
theorem outTable_sc (i : Fin 64) (h : Fin 1024) : outTable (ix2 (scAt i) h) = halfTable (ix2 i h) := by
  unfold outTable halfTable
  pointwise

/-- The input degrees are 1, 2, ..., 64. -/
theorem inDeg_apply (d : Fin 64) : inDeg (ix1 d) = BitVec.ofNat 32 (d.val + 1) := by
  revert d
  decide +kernel

/-- The hidden degrees run through 1, 2, ..., 63 again and again. -/
theorem hidDeg_apply (h : Fin 1024) : hidDeg (ix1 h) = BitVec.ofNat 32 (h.val % 63 + 1) := by
  revert h
  decide +kernel

/-- A bit read as a number is its word read as a number. -/
theorem bit_word (b : Bool) : FloatOps.uitofp (F := Ideal) .f32 (BitVec.ofBool b) = FloatOps.ofBits .f32 (unitWord b) := by
  cases b
  · pointwise
    show (((0#1 : BitVec 1).toNat : ℝ) : EReal) = 0
    simp
  · pointwise
    show (((1#1 : BitVec 1).toNat : ℝ) : EReal) = 1
    simp

/-- "At least" on two degrees as words. -/
theorem at_most : ∀ (x : Fin 63) (d : Fin 64),
    IntOp.cmpi .sge (BitVec.ofNat 32 (x.val + 1)) (BitVec.ofNat 32 (d.val + 1)) = BitVec.ofBool (Nat.ble d.val x.val) := by
  decide +kernel

/-- "Above" on two degrees as words. -/
theorem above : ∀ (d : Fin 64) (x : Fin 63),
    IntOp.cmpi .sgt (BitVec.ofNat 32 (d.val + 1)) (BitVec.ofNat 32 (x.val + 1))
      = BitVec.ofBool (Nat.ble (x.val + 1) d.val) := by
  decide +kernel

/-- The input mask's words. -/
theorem inTable_word (h : Fin 1024) (d : Fin 64) :
    inTable (ix2 h d) = FloatOps.ofBits (F := Ideal) .f32 (inWord (h.val * 64 + d.val)) := by
  rw [inTable_apply, inDeg_apply, hidDeg_apply]
  have e : inWord (h.val * 64 + d.val) = unitWord (Nat.ble d.val (h.val % 63)) := by
    unfold inWord
    rw [show (h.val * 64 + d.val) % 64 = d.val by omega, show (h.val * 64 + d.val) / 64 = h.val by omega]
  rw [e, ← bit_word]
  exact congrArg _ (at_most ⟨h.val % 63, by omega⟩ d)

/-- The output mask's words. -/
theorem halfTable_word (d : Fin 64) (h : Fin 1024) :
    halfTable (ix2 d h) = FloatOps.ofBits (F := Ideal) .f32 (outWord (d.val * 1024 + h.val)) := by
  show FloatOps.uitofp (F := Ideal) .f32 (IntOp.cmpi .sgt (inDeg (ix1 d)) (hidDeg (ix1 h))) = _
  rw [inDeg_apply, hidDeg_apply]
  have e : outWord (d.val * 1024 + h.val) = unitWord (Nat.ble (h.val % 63 + 1) d.val) := by
    unfold outWord
    rw [show (d.val * 1024 + h.val) % 1024 = h.val by omega, show (d.val * 1024 + h.val) / 1024 = d.val by omega]
  rw [e, ← bit_word]
  exact congrArg _ (above d ⟨h.val % 63, by omega⟩)

end Sampler.Ref
-- ==== Proof.RefEntry.lean ====
module

public import proofs.«01_k».proof.Proof.RefMasks

/-!
The contents the reference enters its loop with, and what its loop leaves in the results.
-/

@[expose] public section

set_option maxRecDepth 16384

noncomputable section

namespace Sampler.Ref

open Cert.ReferenceIdeal Cert.ReferenceIdeal.Gen Cert.ReferenceIdeal.Value Idealize.ShloMosaic Idealize.ShloMosaic.TcCoe
open Idealize.SL.Sem Idealize.ShloMosaic.StableHlo
open scoped BigOperators

variable (m : (ℓ : Loc nD τ sig) → Buf (Elt Ideal) ℓ) (c : Dev nD)

/-- What the loop is entered with. -/
abbrev entry : Vals := entryContents preI m c

/-- The arguments, and the masks the reference multiplies with. -/
def args : Args where
  ctx := m ((c.tc : Thread nD τ).loc main_arg0)
  eps := m ((c.tc : Thread nD τ).loc main_arg1)
  w1 := m ((c.tc : Thread nD τ).loc main_arg2)
  b1 := m ((c.tc : Thread nD τ).loc main_arg3)
  wc := m ((c.tc : Thread nD τ).loc main_arg4)
  wo := m ((c.tc : Thread nD τ).loc main_arg5)
  bo := m ((c.tc : Thread nD τ).loc main_arg6)
  inMask := inTable
  outMask := halfTable

theorem entry_iota : (entry m c (Proc.devRef .tc main_v26_0) : IVec S64 32) = iotaInDim S64 32 0 := by
  simp only [entry, entryContents, afterL_cons, afterL_nil]
  after_reads_simp
  rfl

/-- The samples, the means and the scales start at zero. -/
theorem entry_z : (entry m c (Proc.devRef .tc main_v26_7) : FVec Ideal S4x1024x64 .f32)
    = broadcastInDim S4x1024x64 ![] bcast_S_S4x1024x64 (constant (F := Ideal) S_ .f32 0x00000000#32) := by
  simp only [entry, entryContents, afterL_cons, afterL_nil]
  after_reads_simp
  rfl

theorem entry_mu : (entry m c (Proc.devRef .tc main_v26_8) : FVec Ideal S64x4x1024 .f32)
    = broadcastInDim S64x4x1024 ![] bcast_S_S64x4x1024 (constant (F := Ideal) S_ .f32 0x00000000#32) := by
  simp only [entry, entryContents, afterL_cons, afterL_nil]
  after_reads_simp
  rfl

theorem entry_sc : (entry m c (Proc.devRef .tc main_v26_9) : FVec Ideal S64x4x1024 .f32)
    = broadcastInDim S64x4x1024 ![] bcast_S_S64x4x1024 (constant (F := Ideal) S_ .f32 0x00000000#32) := by
  simp only [entry, entryContents, afterL_cons, afterL_nil]
  after_reads_simp
  rfl

theorem entry_noise : (entry m c (Proc.devRef .tc main_v26_5) : FVec Ideal S4x1024x64 .f32) = (args m c).eps := by
  simp only [entry, entryContents, afterL_cons, afterL_nil]
  after_reads_simp
  rfl

theorem entry_bias : (entry m c (Proc.devRef .tc main_v26_4) : FVec Ideal S128 .f32) = (args m c).bo := by
  simp only [entry, entryContents, afterL_cons, afterL_nil]
  after_reads_simp
  rfl

/-- The hidden activations before any sample is drawn. -/
theorem entry_start : (entry m c (Proc.devRef .tc main_v26_2) : FVec Ideal S4096x1024 .f32)
    = addf (F := Ideal) (φ := .f32)
        (Host.dotGeneral (F := Ideal) dot_S4096x256_S256x1024_S4096x1024_1_0_0_1_n_n none
          (shapeCast S4096x256 (broadcastInDim S4x1024x256 ![1, 2] bcast_S1024x256_S4x1024x256_1_2 (args m c).ctx)
            shapeCasts_S4x1024x256_S4096x256)
          (transpose S256x1024 [1, 0] (args m c).wc transposes_S1024x256_S256x1024_1_0))
        (broadcastInDim S4096x1024 ![0, 1] bcast_S1x1024_S4096x1024_0_1
          (broadcastInDim S1x1024 ![1] bcast_S1024_S1x1024_1 (args m c).b1)) := by
  simp only [entry, entryContents, afterL_cons, afterL_nil]
  after_reads_simp
  rfl

/-- The masked input weights. -/
theorem entry_win : (entry m c (Proc.devRef .tc main_v26_1) : FVec Ideal S1024x64 .f32)
    = mulf (F := Ideal) (φ := .f32) (args m c).w1 (args m c).inMask := by
  simp only [entry, entryContents, afterL_cons, afterL_nil]
  after_reads_simp
  rfl

/-- The masked output weights. -/
theorem entry_wout : (entry m c (Proc.devRef .tc main_v26_3) : FVec Ideal S128x1024 .f32)
    = mulf (F := Ideal) (φ := .f32) (args m c).wo outTable := by
  simp only [entry, entryContents, afterL_cons, afterL_nil]
  after_reads_simp
  rfl

theorem start_apply (A : Args) (s : Fin 4) (b : Fin 1024) (h : Fin 1024) :
    addf (F := Ideal) (φ := .f32)
        (Host.dotGeneral (F := Ideal) dot_S4096x256_S256x1024_S4096x1024_1_0_0_1_n_n none
          (shapeCast S4096x256 (broadcastInDim S4x1024x256 ![1, 2] bcast_S1024x256_S4x1024x256_1_2 A.ctx)
            shapeCasts_S4x1024x256_S4096x256)
          (transpose S256x1024 [1, 0] A.wc transposes_S1024x256_S256x1024_1_0))
        (broadcastInDim S4096x1024 ![0, 1] bcast_S1x1024_S4096x1024_0_1
          (broadcastInDim S1x1024 ![1] bcast_S1024_S1x1024_1 A.b1)) (ix2 (flat s b) h)
      = (A.row s b).start h := by
  pointwise
  have hb : ∀ hlt, (⟨(s.val * 1024 + b.val) % 1024, hlt⟩ : Fin 1024) = b := fun _ => Fin.ext (by
    show (s.val * 1024 + b.val) % 1024 = b.val
    omega)
  simp only [hb]
  rfl

theorem wmu_apply (s : Fin 4) (b : Fin 1024) (i : Fin 64) (h : Fin 1024) :
    mulf (F := Ideal) (φ := .f32) (args m c).wo outTable (ix2 (muAt i) h) = ((args m c).row s b).wmu i h := by
  pointwise
  rw [outTable_mu]
  rfl

theorem wsc_apply (s : Fin 4) (b : Fin 1024) (i : Fin 64) (h : Fin 1024) :
    mulf (F := Ideal) (φ := .f32) (args m c).wo outTable (ix2 (scAt i) h) = ((args m c).row s b).wsc i h := by
  pointwise
  rw [outTable_sc]
  rfl

/-- The rows the loop is entered with are the arguments' rows. -/
theorem entry_row (s : Fin 4) (b : Fin 1024) : row (entry m c) s b = (args m c).row s b := by
  unfold row
  rw [entry_start, entry_win, entry_wout, entry_bias, entry_noise]
  unfold rowOf Args.row
  rw [Row.mk.injEq]
  refine ⟨funext fun h => start_apply _ s b h, rfl, funext fun i => funext fun h => wmu_apply m c s b i h,
    funext fun i => funext fun h => wsc_apply m c s b i h, rfl, rfl, rfl⟩

theorem entry_before : Before (entry m c) 0 where
  iota := entry_iota m c
  count := (ctr_entry m c).trans rfl
  z s b d := by
    rw [entry_z, Row.upTo_zero]
    pointwise
  mu s b d := by
    rw [entry_mu, Row.upTo_zero]
    pointwise
  sc s b d := by
    rw [entry_sc, Row.upTo_zero]
    pointwise

theorem after_trips (V : Vals) (h : Before V 0) (k : ℕ) (hk : k ≤ 64) :
    Before (STEP^[k] V) k ∧ ∀ s b, row (STEP^[k] V) s b = row V s b := by
  induction k with
  | zero => exact ⟨h, fun _ _ => rfl⟩
  | succ k ih =>
    obtain ⟨hb, hr⟩ := ih (by omega)
    rw [Function.iterate_succ_apply']
    exact ⟨before_step _ ⟨k, by omega⟩ hb, fun s b => (row_step _ s b).trans (hr s b)⟩

/-- What the loop ends with. -/
abbrev final : Vals := STEP^[64] (entry m c)

theorem final_row (s : Fin 4) (b : Fin 1024) : row (final m c) s b = (args m c).row s b :=
  ((after_trips _ (entry_before m c) 64 le_rfl).2 s b).trans (entry_row m c s b)

theorem final_z (s : Fin 4) (b : Fin 1024) (d : Fin 64) :
    (final m c (Proc.devRef .tc main_v26_7) : FVec Ideal S4x1024x64 .f32) (ix3 s b d) = ((args m c).row s b).z d := by
  refine ((after_trips _ (entry_before m c) 64 le_rfl).1.z s b d).trans ?_
  rw [Row.upTo_all, final_row]

theorem final_mu (s : Fin 4) (b : Fin 1024) (d : Fin 64) :
    (final m c (Proc.devRef .tc main_v26_8) : FVec Ideal S64x4x1024 .f32) (ix3 d s b) = ((args m c).row s b).mu d := by
  refine ((after_trips _ (entry_before m c) 64 le_rfl).1.mu s b d).trans ?_
  rw [Row.upTo_all, final_row]

theorem final_sc (s : Fin 4) (b : Fin 1024) (d : Fin 64) :
    (final m c (Proc.devRef .tc main_v26_9) : FVec Ideal S64x4x1024 .f32) (ix3 d s b) = ((args m c).row s b).sc d := by
  refine ((after_trips _ (entry_before m c) 64 le_rfl).1.sc s b d).trans ?_
  rw [Row.upTo_all, final_row]

/-- The reference's samples. -/
theorem result_z : (final m c (Proc.devRef .tc main_v26_7) : FVec Ideal S4x1024x64 .f32) = (args m c).z := by
  funext j
  have e := final_z m c (j 0) (j 1) (j 2)
  have hj : j = ix3 (j 0) (j 1) (j 2) := eq_ix3 j
  exact (congrArg (final m c (Proc.devRef .tc main_v26_7) : FVec Ideal S4x1024x64 .f32) hj).trans e

/-- The means and the scales are laid out with the entry last. -/
theorem back_apply (x : FVec Ideal S64x4x1024 .f32) (s : Fin 4) (b : Fin 1024) (d : Fin 64) :
    transpose S4x1024x64 [1, 2, 0] x transposes_S64x4x1024_S4x1024x64_1_2_0 (ix3 s b d) = x (ix3 d s b) := by
  pointwise

/-- The reference's means. -/
theorem result_mu : (out_main_v27 (final m c) : FVec Ideal S4x1024x64 .f32) = (args m c).mu := by
  funext j
  have e := final_mu m c (j 0) (j 1) (j 2)
  have hj : j = ix3 (j 0) (j 1) (j 2) := eq_ix3 j
  exact (congrArg (out_main_v27 (final m c) : FVec Ideal S4x1024x64 .f32) hj).trans ((back_apply _ _ _ _).trans e)

/-- The reference's scales. -/
theorem result_sc : (out_main_v28 (final m c) : FVec Ideal S4x1024x64 .f32) = (args m c).sc := by
  funext j
  have e := final_sc m c (j 0) (j 1) (j 2)
  have hj : j = ix3 (j 0) (j 1) (j 2) := eq_ix3 j
  exact (congrArg (out_main_v28 (final m c) : FVec Ideal S4x1024x64 .f32) hj).trans ((back_apply _ _ _ _).trans e)

end Sampler.Ref
-- ==== Proof.Equation.lean ====
module

public import proofs.«01_k».proof.Proof.InMask
public import proofs.«01_k».proof.Proof.MuMask
public import proofs.«01_k».proof.Proof.ScMask
public import proofs.«01_k».proof.Proof.KerEntry
public import proofs.«01_k».proof.Proof.RefEntry

/-!
The two programs read the same rows: equal arguments and equal masks.
-/

@[expose] public section

noncomputable section

namespace Sampler

open Idealize.ShloMosaic Idealize.ShloMosaic.TcCoe Idealize.SL.Sem

/-- Where an entry of the input mask lies in its table. -/
theorem in_place (j : Cert.KernelIdeal.S1024x64.Idx) :
    (Cert.KernelIdeal.S1024x64.rowMajor j).val = (j 0).val * 64 + (j 1).val :=
  Shape.rowMajor_val_two j

/-- Where an entry of the output mask lies in its table. -/
theorem out_place (j : Cert.KernelIdeal.S64x1024.Idx) :
    (Cert.KernelIdeal.S64x1024.rowMajor j).val = (j 0).val * 1024 + (j 1).val :=
  Shape.rowMajor_val_two j

/-- The kernel's two output masks are one table. -/
theorem scMask_eq (m : (ℓ : Loc Cert.KernelIdeal.nD Cert.KernelIdeal.τ Cert.KernelIdeal.sig) → Buf (Elt Ideal) ℓ)
    (c : Dev Cert.KernelIdeal.nD) : Ker.scMask = (Ker.args m c).outMask := by
  funext j
  exact congrArg (FloatOps.ofBits (F := Ideal) .f32) ((sc_mask _).trans (mu_mask _).symm)

/-- From memories that agree on the arguments, the two programs read the same arrays and the same masks. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : (Ref.args m' c).ctx = (Ker.args m c).ctx) (h1 : (Ref.args m' c).eps = (Ker.args m c).eps)
    (h2 : (Ref.args m' c).w1 = (Ker.args m c).w1) (h3 : (Ref.args m' c).b1 = (Ker.args m c).b1)
    (h4 : (Ref.args m' c).wc = (Ker.args m c).wc) (h5 : (Ref.args m' c).wo = (Ker.args m c).wo)
    (h6 : (Ref.args m' c).bo = (Ker.args m c).bo) : Ref.args m' c = Ker.args m c := by
  have hi : (Ref.args m' c).inMask = (Ker.args m c).inMask := by
    funext j
    have hj : j = ix2 (j 0) (j 1) := eq_ix2 j
    refine (congrArg Ref.inTable hj).trans ((Ref.inTable_word (j 0) (j 1)).trans ?_)
    exact congrArg (FloatOps.ofBits (F := Ideal) .f32) ((in_mask _).trans (congrArg inWord (in_place j))).symm
  have ho : (Ref.args m' c).outMask = (Ker.args m c).outMask := by
    funext j
    have hj : j = ix2 (j 0) (j 1) := eq_ix2 j
    refine (congrArg Ref.halfTable hj).trans ((Ref.halfTable_word (j 0) (j 1)).trans ?_)
    exact congrArg (FloatOps.ofBits (F := Ideal) .f32) ((mu_mask _).trans (congrArg outWord (out_place j))).symm
  generalize Ref.args m' c = A at *
  generalize Ker.args m c = B at *
  cases A
  cases B
  simp only at h0 h1 h2 h3 h4 h5 h6 hi ho
  subst h0 h1 h2 h3 h4 h5 h6 hi ho
  rfl

end Sampler
-- ==== Proof.lean ====
/-
  The five claims: the kernel, the idealized kernel and the idealized reference run and leave their arguments
  and every semaphore as they were; the idealization rewrites nothing; and over the extended reals the kernel's
  three result arrays equal the reference's.
-/
module

public import proofs.«01_k».proof.Defs
public import proofs.«01_k».proof.Proof.Gen.Kernel
public import proofs.«01_k».proof.Proof.Gen.Kernel.Frame
public import proofs.«01_k».proof.Proof.Array
public import proofs.«01_k».proof.Proof.Equation
public import Idealize.ShloMosaic.Adequacy
public import Idealize.ShloMosaic.Lib.Quiescent
public import Idealize.ShloMosaic.Init

@[expose] public section

noncomputable section

namespace Cert.Proof

open Idealize.ShloMosaic Idealize.SL.Sem

/-- The reference runs and leaves its arguments and every semaphore as they were. -/
theorem reference_frame : quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩)
    (Cert.ReferenceIdeal.Value.run (F := Ideal) m ρ)

/-- The kernel's results are the reference's, as extended reals. -/
theorem results_equal : algebraic_KernelIdeal_ReferenceIdeal (hKernelIdeal := Cert.KernelIdeal.Gen.facts)
    (hReferenceIdeal := Cert.ReferenceIdeal.Gen.facts) := by
  intro m ρ m' ρ' _ hargs
  have e : ∀ c, Sampler.Ref.args m' c = Sampler.Ker.args m c := fun c =>
    have h := hargs c
    Sampler.args_eq m m' c h.1 h.2.1 h.2.2.1 h.2.2.2.1 h.2.2.2.2.1 h.2.2.2.2.2.1 h.2.2.2.2.2.2
  refine ⟨fun c => (Sampler.Ker.args m c).z, fun c => (Sampler.Ker.args m c).mu, fun c => (Sampler.Ker.args m c).sc, ?_, ?_⟩
  · refine (θ_run Cert.KernelIdeal.defs _ _).mono (fun r h c => ?_) (Cert.KernelIdeal.Value.run_blocks (F := Ideal) m ρ)
    obtain ⟨hz, hm, hs, hrest⟩ := h c
    exact ⟨hz.trans (Sampler.Ker.array9 m c (Sampler.scMask_eq m c)), hm.trans (Sampler.Ker.array10 m c (Sampler.scMask_eq m c)),
      hs.trans (Sampler.Ker.array11 m c (Sampler.scMask_eq m c)), hrest⟩
  · refine (θ_run Cert.ReferenceIdeal.defs _ _).mono (fun r h c => ?_) (Cert.ReferenceIdeal.Value.run (F := Ideal) m' ρ')
    obtain ⟨hz, hm, hs, hrest⟩ := h c
    exact ⟨hz.trans ((Sampler.Ref.result_z m' c).trans (congrArg Sampler.Args.z (e c))),
      hm.trans ((Sampler.Ref.result_mu m' c).trans (congrArg Sampler.Args.mu (e c))),
      hs.trans ((Sampler.Ref.result_sc m' c).trans (congrArg Sampler.Args.sc (e c))), hrest⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    results_equal⟩

end Cert.Proof

end
